-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S20000x256 : Shape := ⟨2, ![20000, 256]⟩
abbrev S5000x256 : Shape := ⟨2, ![5000, 256]⟩
abbrev S1000x32x32 : Shape := ⟨3, ![1000, 32, 32]⟩
abbrev S_ : Shape := ⟨0, ![]⟩

class Facts : Prop where
  bcast_S_S1000x32x32 : S_.BroadcastsInDim S1000x32x32 (![] : Fin 0 → Fin S1000x32x32.rank)
  reducesTo_S1000x32x32_S_d0_1_2 : S1000x32x32.ReducesTo [0, 1, 2] S_
  h_S_ : 0 < S_.numel

variable [Facts]

def fn {F : FTy → Type} [FloatOps F] (main_arg0 : FVec F S20000x256 .f32) (main_arg1 : FVec F S5000x256 .f32) (main_arg2 : IVec S1000x32x32 32) : IVec S_ 1 :=
  let main_c : IVec S_ 32 := constantI S_ 32 0#32
  let main_v0 : IVec S1000x32x32 32 := broadcastInDim S1000x32x32 ![] bcast_S_S1000x32x32 main_c
  let main_v1 : IVec S1000x32x32 1 := cmpi .sge main_arg2 main_v0
  let main_c_0 : IVec S_ 32 := constantI S_ 32 25000#32
  let main_v2 : IVec S1000x32x32 32 := broadcastInDim S1000x32x32 ![] bcast_S_S1000x32x32 main_c_0
  let main_v3 : IVec S1000x32x32 1 := cmpi .slt main_arg2 main_v2
  let main_v4 : IVec S1000x32x32 1 := andi main_v1 main_v3
  let main_c_1 : IVec S_ 1 := constantI S_ 1 1#1
  let main_v5 : IVec S_ 1 := (fun x v => Host.reduce IntOp.andi x v reducesTo_S1000x32x32_S_d0_1_2 h_S_) main_v4 main_c_1
  main_v5
-- ==== Kernel.lean ====
abbrev S20000x256 : Shape := ⟨2, ![20000, 256]⟩
abbrev S5000x256 : Shape := ⟨2, ![5000, 256]⟩
abbrev S1000x32x32 : Shape := ⟨3, ![1000, 32, 32]⟩
abbrev S1024000 : Shape := ⟨1, ![1024000]⟩
abbrev S32x25088 : Shape := ⟨2, ![32, 25088]⟩
abbrev S32000 : Shape := ⟨1, ![32000]⟩
abbrev S25088 : Shape := ⟨1, ![25088]⟩
abbrev S_ : Shape := ⟨0, ![]⟩
abbrev S16 : Shape := ⟨1, ![16]⟩
abbrev S1x25088 : Shape := ⟨2, ![1, 25088]⟩
abbrev S25088x32 : Shape := ⟨2, ![25088, 32]⟩
abbrev S1x256 : Shape := ⟨2, ![1, 256]⟩
abbrev S4000x32 : Shape := ⟨2, ![4000, 32]⟩
abbrev S1000x32 : Shape := ⟨2, ![1000, 32]⟩
abbrev S4000x256 : Shape := ⟨2, ![4000, 256]⟩
abbrev S1000x256 : Shape := ⟨2, ![1000, 256]⟩
abbrev S4000 : Shape := ⟨1, ![4000]⟩
abbrev S4000x1 : Shape := ⟨2, ![4000, 1]⟩
abbrev S1000 : Shape := ⟨1, ![1000]⟩
abbrev S1000x1 : Shape := ⟨2, ![1000, 1]⟩

abbrev nBuf : Table → Nat
  | .hbm => 7
  | .local .tc .vmem => 9
  | .local .scVector .vmem => 2
  | _ => 0

abbrev bufTy : (tb : Table) → Fin (nBuf tb) → BufTy
  | .hbm, ⟨0, _⟩ => ⟨S20000x256, .f32⟩
  | .hbm, ⟨1, _⟩ => ⟨S5000x256, .f32⟩
  | .hbm, ⟨2, _⟩ => ⟨S1000x32x32, .i32⟩
  | .hbm, ⟨3, _⟩ => ⟨S1024000, .i32⟩
  | .hbm, ⟨4, _⟩ => ⟨S32x25088, .f32⟩
  | .hbm, ⟨5, _⟩ => ⟨S25088x32, .f32⟩
  | .hbm, ⟨6, _⟩ => ⟨S1x256, .f32⟩
  | .local .tc .vmem, ⟨0, _⟩ => ⟨S4000x32, .f32⟩
  | .local .tc .vmem, ⟨1, _⟩ => ⟨S4000x32, .f32⟩
  | .local .tc .vmem, ⟨2, _⟩ => ⟨S1000x32, .f32⟩
  | .local .tc .vmem, ⟨3, _⟩ => ⟨S1000x32, .f32⟩
  | .local .tc .vmem, ⟨4, _⟩ => ⟨S4000x256, .f32⟩
  | .local .tc .vmem, ⟨5, _⟩ => ⟨S4000x256, .f32⟩
  | .local .tc .vmem, ⟨6, _⟩ => ⟨S1000x256, .f32⟩
  | .local .tc .vmem, ⟨7, _⟩ => ⟨S1000x256, .f32⟩
  | .local .tc .vmem, ⟨8, _⟩ => ⟨S1x256, .f32⟩
  | .local .scVector .vmem, ⟨0, _⟩ => ⟨S32000, .i32⟩
  | .local .scVector .vmem, ⟨1, _⟩ => ⟨S25088, .f32⟩
  | _, _ => ⟨S20000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32000_i32 : BitVec 32 := 32000#32
  let v2 : BitVec 32 := Scalar.muli v1 c32000_i32
  ![v2.toNat]
@[reducible] def k0_t1_loop : Scf.Loop 32 :=
  let c0_i32_0 : BitVec 32 := 0#32
  let c1568_i32 : BitVec 32 := 1568#32
  let v4 : BitVec 32 := Scalar.addi c0_i32_0 c1568_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c16_i32 : BitVec 32 := 16#32
  let v7 : BitVec 32 := Scalar.muli arg6 c16_i32
  let v8 : Index := Scalar.indexCast v7
  ![v8.toNat]
@[reducible] def k0_t2_loop : Scf.Loop 32 :=
  let c0_i32_4 : BitVec 32 := 0#32
  let c2000_i32 : BitVec 32 := 2000#32
  let v6 : BitVec 32 := Scalar.addi c0_i32_4 c2000_i32
  let c1_i32_5 : BitVec 32 := 1#32
  ⟨c0_i32_4, v6, c1_i32_5⟩
def k0_off3 (k0_t2 : Fin k0_t2_loop.trips) : Fin 1 → Nat :=
  let c0_i32_4 : BitVec 32 := 0#32
  let c1_i32_5 : BitVec 32 := 1#32
  let arg6 : BitVec 32 := Scf.iv c0_i32_4 c1_i32_5 k0_t2
  let c16_i32 : BitVec 32 := 16#32
  let v7 : BitVec 32 := Scalar.muli arg6 c16_i32
  let v8 : Index := Scalar.indexCast v7
  ![v8.toNat]

def k0_chk1 (v9 : IVec S16 32) : Prop :=
  (∀ a x, ((![v9] : Fin 1 → IVec S16 32) a x).toNat < S25088.size a)
theorem k0_idx1_inb : ∀ (v9 : IVec S16 32) (k0_hw1 : k0_chk1 v9), ∀ a x, ((![v9] : Fin 1 → IVec S16 32) a x).toNat < S25088.size a := fun v9 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r1 : BitVec 32 := 0#32
  ![v1.toNat, 0]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x256 : Shape := ⟨2, ![20000, 256]⟩
abbrev S5000x256 : Shape := ⟨2, ![5000, 256]⟩
abbrev S1000x32x32 : Shape := ⟨3, ![1000, 32, 32]⟩
abbrev S1024000 : Shape := ⟨1, ![1024000]⟩
abbrev S_ : Shape := ⟨0, ![]⟩
abbrev S25000 : Shape := ⟨1, ![25000]⟩
abbrev S1024000x1 : Shape := ⟨2, ![1024000, 1]⟩
abbrev S25000x1 : Shape := ⟨2, ![25000, 1]⟩
abbrev S20000x1 : Shape := ⟨2, ![20000, 1]⟩
abbrev S256 : Shape := ⟨1, ![256]⟩
abbrev S1x256 : Shape := ⟨2, ![1, 256]⟩
abbrev S5000x1 : Shape := ⟨2, ![5000, 1]⟩

abbrev nBuf : Space → Nat
  | .hbm => 39
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S5000x256, .f32⟩
  | .hbm, ⟨2, _⟩ => ⟨S1000x32x32, .i32⟩
  | .hbm, ⟨3, _⟩ => ⟨S1024000, .i32⟩
  | .hbm, ⟨4, _⟩ => ⟨S_, .i32⟩
  | .hbm, ⟨5, _⟩ => ⟨S25000, .i32⟩
  | .hbm, ⟨6, _⟩ => ⟨S_, .i32⟩
  | .hbm, ⟨7, _⟩ => ⟨S_, .i32⟩
  | .hbm, ⟨8, _⟩ => ⟨S1024000, .i32⟩
  | .hbm, ⟨9, _⟩ => ⟨S1024000, .i32⟩
  | .hbm, ⟨10, _⟩ => ⟨S_, .i32⟩
  | .hbm, ⟨11, _⟩ => ⟨S1024000, .i32⟩
  | .hbm, ⟨12, _⟩ => ⟨S1024000, .i1⟩
  | .hbm, ⟨13, _⟩ => ⟨S_, .i32⟩
  | .hbm, ⟨14, _⟩ => ⟨S1024000, .i32⟩
  | .hbm, ⟨15, _⟩ => ⟨S1024000, .i32⟩
  | .hbm, ⟨16, _⟩ => ⟨S1024000, .i32⟩
  | .hbm, ⟨17, _⟩ => ⟨S1024000x1, .i32⟩
  | .hbm, ⟨18, _⟩ => ⟨S_, .i32⟩
  | .hbm, ⟨19, _⟩ => ⟨S1024000, .i32⟩
  | .hbm, ⟨20, _⟩ => ⟨S25000, .i32⟩
  | .hbm, ⟨21, _⟩ => ⟨S25000x1, .i32⟩
  | .hbm, ⟨22, _⟩ => ⟨S25000x1, .f32⟩
  | .hbm, ⟨23, _⟩ => ⟨S20000x1, .f32⟩
  | .hbm, ⟨24, _⟩ => ⟨S20000x256, .f32⟩
  | .hbm, ⟨25, _⟩ => ⟨S20000x256, .f32⟩
  | .hbm, ⟨26, _⟩ => ⟨S_, .f32⟩
  | .hbm, ⟨27, _⟩ => ⟨S256, .f32⟩
  | .hbm, ⟨28, _⟩ => ⟨S1x256, .f32⟩
  | .hbm, ⟨29, _⟩ => ⟨S5000x1, .f32⟩
  | .hbm, ⟨30, _⟩ => ⟨S5000x256, .f32⟩
  | .hbm, ⟨31, _⟩ => ⟨S5000x256, .f32⟩
  | .hbm, ⟨32, _⟩ => ⟨S_, .f32⟩
  | .hbm, ⟨33, _⟩ => ⟨S256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.InRange.lean ====
module

public import proofs.«01_k».proof.Pre_in_range
public import proofs.«01_k».proof.Proof.Gen.Pre_in_range
public import Idealize.ShloMosaic.Lib.ReduceAll

/-!
  The precondition, read back: the printed predicate is the conjunction over all ids of `0 ≤ id` and `id < 25000`, so when
  it holds every id, as an unsigned word, is below 25000.
-/

@[expose] public section

noncomputable section

namespace Cert.Proof

open Idealize.ShloMosaic
open Cert.Pre_in_range Cert.Pre_in_range.Gen

variable {F : FTy → Type} [FloatOps F]

/-- A word between 0 and 25000 as a signed number is below 25000 as an unsigned one. -/
theorem lt_of_signed (x : BitVec 32) (h0 : (0#32).toInt ≤ x.toInt) (h1 : x.toInt < (25000#32).toInt) : x.toNat < 25000 := by
  simp only [BitVec.toInt_eq_toNat_cond, BitVec.toNat_ofNat, Nat.reducePow, Nat.reduceMod] at h0 h1
  omega

/-- When the predicate holds of the arguments, every id is below 25000. -/
theorem ids_lt (a : FVec F Pre_in_range.S20000x256 .f32) (b : FVec F Pre_in_range.S5000x256 .f32) (x : IVec Pre_in_range.S1000x32x32 32)
    (h : Pre_in_range.fn a b x = fun _ => 1#1) (i : Pre_in_range.S1000x32x32.Idx) : (x i).toNat < 25000 := by
  have : Subsingleton Pre_in_range.S_.Idx := ⟨fun p q => funext fun k => k.elim0⟩
  have e := congrFun h (fun k => k.elim0)
  have e' := IntOp.andi_eq_one.1 (Host.reduce_andi_all _ _ _ _ _ e i)
  exact lt_of_signed (x i) (IntOp.cmpi_sge.1 e'.1) (IntOp.cmpi_slt.1 e'.2)

end Cert.Proof

end
-- ==== Proof.KernelIdealTile.lean ====
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.Gen.KernelIdeal
public import proofs.«01_k».proof.Proof.Gen.KernelIdeal.Skeleton

/-!
  The histogram on one vector subcore.

  Worker `w = 2 s + c` (subcore `s` of SparseCore `c`) copies ids `32000 w … 32000 w + 31999` into its memory, clears
  its table of 25088 bins, adds a one to the table at each id, sixteen ids a trip, and copies the table to row `w` of the
  array of counts. `hist` is that table as a function of the ids and the number of trips done; `tile_body` says the
  worker leaves its row of the counts at `hist` of its ids.
-/

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds: the left factor. -/
abbrev EH : Emb UH (MT nD τ sig (HIx 1) (Elt F) ℕ UU ℕ) := embL

/-! ## The arrays the SparseCores read and write -/

abbrev iLoc (d : Dev nD) : Loc nD τ sig := (SparseCore.T d).loc main_v0
abbrev oLoc (d : Dev nD) : Loc nD τ sig := (SparseCore.T d).loc main_v1

local notation "iV" => (Memref.whole Cert.KernelIdeal.main_v0_scv : Memref Cert.KernelIdeal.sig Kind.scVector Space.hbm Cert.KernelIdeal.S1024000 EltTy.i32)
local notation "oV" => (Memref.whole Cert.KernelIdeal.main_v1_scv : Memref Cert.KernelIdeal.sig Kind.scVector Space.hbm Cert.KernelIdeal.S32x25088 EltTy.f32)
local notation "sV" => (Memref.whole Cert.KernelIdeal.cc0_scratch0 : Memref Cert.KernelIdeal.sig Kind.scVector Space.vmem Cert.KernelIdeal.S32000 EltTy.i32)
local notation "hV" => (Memref.whole Cert.KernelIdeal.cc0_scratch1 : Memref Cert.KernelIdeal.sig Kind.scVector Space.vmem Cert.KernelIdeal.S25088 EltTy.f32)

theorem idiv : 32 ∣ S1024000.size 0 := ⟨32000, rfl⟩
theorem odiv : 32 ∣ S32x25088.size 0 := ⟨1, rfl⟩
abbrev irow (w : Fin 32) : Rect S1024000 := Rect.part (s := S1024000) (a₀ := 0) idiv w
abbrev orow (w : Fin 32) : Rect S32x25088 := Rect.part (s := S32x25088) (a₀ := 0) odiv w
abbrev iRowSet (w : Fin 32) : Finset S1024000.Idx := ((iV).view.slice (irow w)).set
abbrev oRowSet (w : Fin 32) : Finset S32x25088.Idx := ((oV).view.slice (orow w)).set

/-- The worker on subcore `i` of SparseCore `c`. -/
def wk (c : Fin 2) (i : Fin 16) : Fin 32 := ⟨i.val * 2 + c.val, by omega⟩

/-! ## What a worker computes -/

section Values

variable [FloatOps F]

theorem trips1 : k0_t1_loop.trips = 1568 := by decide
theorem trips2 : k0_t2_loop.trips = 2000 := by decide
theorem off1_eq : ∀ i : grid0.Coords, k0_off1 i 0 = ((i 1).val * 2 + (i 0).val) * 32000 := by decide +kernel
theorem off4_eq : ∀ i : grid0.Coords, k0_off4 i = ![(i 1).val * 2 + (i 0).val, 0] := by decide +kernel
theorem off2_eq : ∀ k : Fin k0_t1_loop.trips, k0_off2 k 0 = 16 * k.val := by decide +kernel
theorem off3_eq : ∀ k : Fin k0_t2_loop.trips, k0_off3 k 0 = 16 * k.val := by decide +kernel

/-- Worker `w`'s ids: the `w`-th 32000 of all of them. -/
def idsOf (I : S1024000.Idx → BitVec 32) (w : Fin 32) : S32000.Idx → BitVec 32 :=
  fun x => I (fun | 0 => ⟨w.val * 32000 + (x 0).val, by have := (x 0).isLt; have := w.isLt; simp only [S32000, S1024000] at *; simp at *; omega⟩)

/-- The sixteen ids that trip `k` of the adding loop reads. -/
def chunk (ids : S32000.Idx → BitVec 32) (k : Fin k0_t2_loop.trips) : IVec S16 32 :=
  fun x => ids ((Rect.unit (s := S32000) (k0_off3 k) S16.size (k0_off3_inb k)).emb x)

/-- One trip of the adding loop: a one added to the table at each of sixteen ids, lane after lane. -/
def scat (v : IVec S16 32) (g : FVec F S25088 .f32) : FVec F S25088 .f32 :=
  if h : k0_chk1 v then storeIdx (F := F) (e := .f32) g ![v] (k0_pay2 (F := F)) (fun _ => 1#1) true (k0_idx1_inb v h) else g

/-- The table after `n` trips of the adding loop. -/
def hist (ids : S32000.Idx → BitVec 32) : ℕ → FVec F S25088 .f32
  | 0 => fun _ => Scalar.ofBits .f32 0x00000000#32
  | n + 1 => if h : n < k0_t2_loop.trips then scat (chunk ids ⟨n, h⟩) (hist ids n) else hist ids n

/-- The array of counts: row `w` is worker `w`'s table after all its trips. -/
def counts (I : S1024000.Idx → BitVec 32) : FVec F S32x25088 .f32 :=
  fun j => hist (F := F) (idsOf I ⟨(j 0).val, (j 0).isLt⟩) k0_t2_loop.trips (fun | 0 => ⟨(j 1).val, (j 1).isLt⟩)

theorem counts_apply (I : S1024000.Idx → BitVec 32) (j : S32x25088.Idx) (w : Fin 32) (x : S25088.Idx) (h0 : (j 0).val = w.val) (h1 : (j 1).val = (x 0).val) :
    counts (F := F) I j = hist (F := F) (idsOf I w) k0_t2_loop.trips x := by
  obtain rfl : w = ⟨(j 0).val, (j 0).isLt⟩ := Fin.ext h0.symm
  obtain rfl : x = (fun | 0 => ⟨(j 1).val, (j 1).isLt⟩) := funext fun a => match a with | 0 => Fin.ext h1.symm
  rfl

end Values

/-! ## What the handshakes carry -/

variable (m : (ℓ : Loc nD τ sig) → Buf (Elt F) ℓ) (I : (d : Dev nD) → Buf (Elt F) (iLoc d))

variable [FloatOps F]

abbrev iRowPts (d : Dev nD) (w : Fin 32) : sProp 𝕄 := iLoc d ↦[iRowSet w]{fullShare} I d
abbrev oRowPts (d : Dev nD) (w : Fin 32) (f : Buf (Elt F) (oLoc d)) : sProp 𝕄 := oLoc d ↦[oRowSet w]{fullShare} f

/-- A worker takes its ids and its row of the counts, and brings both back, the row filled. -/
abbrev goP (d : Dev nD) (w : Fin 32) : sProp 𝕄 := iprop(iRowPts I d w ∗ oRowPts d w (m (oLoc d)))
abbrev tdP (d : Dev nD) (w : Fin 32) : sProp 𝕄 := iprop(iRowPts I d w ∗ oRowPts d w (counts (I d)))

/-- A SparseCore takes and returns what its sixteen workers do. -/
def P : (K (F := F)).Pay (nD := nD) (Val := Elt F) (Name := ℕ) (U := UU) where
  st := fun q d c => match q with | 0 => bigSep Finset.univ fun i : Fin 16 => goP m I d (wk (Fin.cast nCore_zero c) i)
  dn := fun q d c => match q with | 0 => bigSep Finset.univ fun i : Fin 16 => tdP I d (wk (Fin.cast nCore_zero c) i)
  go := fun q d c i => match q with | 0 => goP m I d (wk (Fin.cast nCore_zero c) (Fin.cast nSub_zero i))
  td := fun q d c i => match q with | 0 => tdP I d (wk (Fin.cast nCore_zero c) (Fin.cast nSub_zero i))
  x := fun _ _ => iprop(emp)

instance P_storable : (P (F := F) m I).IsStorable where
  st q d c := match q with
    | 0 => (inferInstance : BI.Storable (upEmb : UEmb _ 𝕄) (bigSep Finset.univ fun i : Fin 16 => goP m I d (wk (Fin.cast nCore_zero c) i)))
  dn q d c := match q with
    | 0 => (inferInstance : BI.Storable (upEmb : UEmb _ 𝕄) (bigSep Finset.univ fun i : Fin 16 => tdP I d (wk (Fin.cast nCore_zero c) i)))
  go q d c i := match q with
    | 0 => (inferInstance : BI.Storable (upEmb : UEmb _ 𝕄) (goP m I d (wk (Fin.cast nCore_zero c) (Fin.cast nSub_zero i))))
  td q d c i := match q with
    | 0 => (inferInstance : BI.Storable (upEmb : UEmb _ 𝕄) (tdP I d (wk (Fin.cast nCore_zero c) (Fin.cast nSub_zero i))))

/-- Every id is below 25000, so that it names a bin. -/
def IdsOK : Prop := ∀ (d : Dev nD) (j : S1024000.Idx), (I d j).toNat < 25000

/-! ## The worker's pieces of the arrays, as its memrefs address them -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wk (Fin.cast bound_zero (L 0)) (Fin.cast bound_one (L 1))

abbrev irowK (L : grid0.Coords) : Rect S1024000 := Rect.unit (s := S1024000) (k0_off1 L) S32000.size (k0_off1_inb L)
abbrev orowK (L : grid0.Coords) : Rect S32x25088 := Rect.unit (s := S32x25088) (k0_off4 L) S1x25088.size (k0_off4_inb L)
abbrev iRowK (L : grid0.Coords) : Memref sig .scVector .hbm S32000 .i32 := (iV).slice (irowK L) (fun _ => rfl)
abbrev oRowK (L : grid0.Coords) : Memref sig .scVector .hbm S25088 .f32 := ((oV).slice (orowK L) (fun _ => rfl)).squeeze S25088 squeezes_S1x25088_S25088

omit [FloatOps F] in
theorem irowK_eq : irowK L = irow (wL L) := by
  unfold irowK irow Rect.part Rect.block
  congr 1 <;> funext a
  · match a with
    | 0 => rw [off1_eq]; simp [Shape.partIx, Shape.partSize, wk]; rfl
  · match a with
    | 0 => simp [Shape.partSize]
omit [FloatOps F] in
theorem orowK_eq : orowK L = orow (wL L) := by
  unfold orowK orow Rect.part Rect.block
  congr 1 <;> funext a
  · rw [off4_eq]
    match a with
    | 0 => simp [Shape.partIx, Shape.partSize, wk]; rfl
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show (((oV).view.slice (orowK L)).reshape S25088 squeezes_S1x25088_S25088.numel_eq).set = ((oV).view.slice (orow (wL L))).set
  rw [View.set_reshape]
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_hV (f : Buf (Elt F) ((V d (cV L) (jV L)).loc cc0_scratch1)) :
    ((hV).view.loc (V d (cV L) (jV L)) ↦{fullShare} f : sProp 𝕄) = (V d (cV L) (jV L)).loc cc0_scratch1 ↦{fullShare} f := rfl
omit [FloatOps F] in
/-- The table whole, as the scatter addresses it. -/
theorem pts_hV_whole (f : Buf (Elt F) ((V d (cV L) (jV L)).loc cc0_scratch1)) :
    ((((hV).access (.whole S25088)).loc (V d (cV L) (jV L))) ↦[((hV).access (.whole S25088)).set]{fullShare} f : sProp 𝕄)
      = (hV).view.loc (V d (cV L) (jV L)) ↦{fullShare} f := by
  rw [show ((hV).access (.whole S25088)).set = Finset.univ from Memref.set_access_whole _]

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The clearing loop's invariant: the first `16 n` bins hold the zero. -/
def inv1 (n : ℕ) (_ : PUnit) : sProp 𝕄 :=
  iprop(∃ g : Buf (Elt F) ((V d (cV L) (jV L)).loc cc0_scratch1),
    ⌜∀ j : S25088.Idx, (j 0).val < 16 * n → g j = (Scalar.ofBits .f32 0x00000000#32 : F .f32)⌝
      ∗ ((hV).view.loc (V d (cV L) (jV L)) ↦{fullShare} g))

/-- The worker's ids and its table after `n` trips, as contents of its two scratch buffers. -/
abbrev idsB : Buf (Elt F) ((V d (cV L) (jV L)).loc cc0_scratch0) := idsOf (I d) (wL L)
abbrev histB (n : ℕ) : Buf (Elt F) ((V d (cV L) (jV L)).loc cc0_scratch1) := hist (F := F) (idsOf (I d) (wL L)) n

/-- The adding loop's invariant: the ids untouched, the table at its state after `n` trips. -/
def inv2 (n : ℕ) (_ : PUnit) : sProp 𝕄 :=
  iprop(((sV).view.loc (V d (cV L) (jV L)) ↦{fullShare} idsB I d L) ∗ ((hV).view.loc (V d (cV L) (jV L)) ↦{fullShare} histB I d L n))

/-- A trip of the clearing loop clears the next sixteen bins. -/
theorem clear_step (k : Fin k0_t1_loop.trips) (g : Buf (Elt F) ((V d (cV L) (jV L)).loc cc0_scratch1))
    (hg : ∀ j : S25088.Idx, (j 0).val < 16 * k.val → g j = (Scalar.ofBits .f32 0x00000000#32 : F .f32)) (j : S25088.Idx)
    (hj : (j 0).val < 16 * (k.val + 1)) :
    (hV).view.writes (Elt F) g [⟨Rect.unit (s := S25088) (k0_off2 k) S16.size (k0_off2_inb k), k0_pay1 (F := F)⟩] j
      = (Scalar.ofBits .f32 0x00000000#32 : F .f32) := by
  have hoff : k0_off2 k = ![16 * k.val] := funext fun a => match a with | 0 => off2_eq k
  show (hV).view.read (Elt F) ((hV).view.writes (Elt F) g [⟨Rect.unit (s := S25088) (k0_off2 k) S16.size (k0_off2_inb k), k0_pay1 (F := F)⟩]) j = _
  by_cases h : (j 0).val < 16 * k.val
  · rw [View.read_writes_cons_unit_of_not_mem (hV).view g (k0_off2_inb k) _ [] j hoff 0 (.inl h)]
    exact hg j h
  · exact View.read_writes_cons_unit_of_mem (hV).view g (k0_off2_inb k) _ [] j
      (fun a => match a with | 0 => ⟨(j 0).val - 16 * k.val, by show _ < 16; omega⟩) hoff
      (fun a => match a with | 0 => by show (j 0).val = 16 * k.val + ((j 0).val - 16 * k.val); omega)

/-- The sixteen ids trip `k` loads, as the load spells them: `chunk` of the worker's ids. -/
abbrev loaded (k : Fin k0_t2_loop.trips) : IVec S16 32 :=
  View.readAt (Elt F) (sV).view (Rect.unit (s := S32000) (k0_off3 k) S16.size (k0_off3_inb k)).toLoadRect (idsB (F := F) I d L)

omit [FloatOps F] in
/-- The sixteen ids a trip loads name bins. -/
theorem chk_of_ok (hpre : IdsOK I) (k : Fin k0_t2_loop.trips) : k0_chk1 (loaded (F := F) I d L k) := by
  intro a x
  match a with
  | 0 => exact lt_of_lt_of_le (hpre d _) (show 25000 ≤ 25088 by decide)

/-- What the scatter of trip `k` leaves in the table. -/
theorem scattered (k : Fin k0_t2_loop.trips) (h : k0_chk1 (loaded (F := F) I d L k)) :
    ((hV).access (.whole S25088)).write (Elt F) (histB I d L k.val)
        (storeIdx (((hV).access (.whole S25088)).read (Elt F) (histB I d L k.val)) ![loaded (F := F) I d L k] (k0_pay2 (F := F)) (fun _ => 1#1) true
          (k0_idx1_inb _ h)) Finset.univ
      = histB I d L (k.val + 1) := by
  refine (Memref.write_access_whole_univ (Elt F) cc0_scratch1 _ _).trans ?_
  rw [show ((hV).access (.whole S25088)).read (Elt F) (histB I d L k.val) = histB I d L k.val from Memref.read_access_whole (Elt F) cc0_scratch1 _]
  show _ = hist (F := F) (idsOf (I d) (wL L)) (k.val + 1)
  rw [hist, dif_pos k.isLt]
  show _ = scat (F := F) (loaded (F := F) I d L k) (hist (F := F) (idsOf (I d) (wL L)) k.val)
  rw [scat, dif_pos h]

/-- What the fetch leaves in the id scratch. -/
theorem fetched_ids (fs : Buf (Elt F) ((V d (cV L) (jV L)).loc cc0_scratch0)) (pay : S32000.Idx → Elt F .i32)
    (hpay : pay = (iRowK L).view.read (Elt F) (I d)) : View.write (Elt F) (sV).view fs pay Finset.univ = idsB I d L := by
  subst hpay
  rw [View.write_whole_univ]
  funext x
  refine congrArg (I d) (funext fun a => Fin.ext ?_)
  match a with
  | 0 =>
    show k0_off1 L 0 + 1 * (x 0).val = (wL L).val * 32000 + (x 0).val
    rw [off1_eq, one_mul]; rfl

/-- An index of the worker's row of the counts: row `w`, the bin the position in the table. -/
theorem oRowK_emb (x : S25088.Idx) :
    (((oRowK L).view.emb x) 0).val = (wL L).val ∧ (((oRowK L).view.emb x) 1).val = (x 0).val := by
  have hq : S25088.numel = S1x25088.numel := squeezes_S1x25088_S25088.numel_eq
  have hr := Shape.rowMajor_reshapeEquiv hq x
  rw [Shape.rowMajor_val_one, Shape.rowMajor_val_two] at hr
  have h0 : ((Shape.reshapeEquiv hq x) 0).val < 1 := ((Shape.reshapeEquiv hq x) 0).isLt
  have h1 : ((Shape.reshapeEquiv hq x) 0).val * 25088 + ((Shape.reshapeEquiv hq x) 1).val = (x 0).val := hr
  constructor
  · show k0_off4 L 0 + 1 * ((Shape.reshapeEquiv hq x) 0).val = _
    rw [off4_eq]
    show (L 1).val * 2 + (L 0).val + 1 * ((Shape.reshapeEquiv hq x) 0).val = (L 1).val * 2 + (L 0).val
    omega
  · show k0_off4 L 1 + 1 * ((Shape.reshapeEquiv hq x) 1).val = _
    rw [off4_eq]
    show 0 + 1 * ((Shape.reshapeEquiv hq x) 1).val = _
    omega

/-- What the write-out leaves in the worker's row is the row of `counts`. -/
theorem written_row (f : Buf (Elt F) (oLoc d)) (pay : S25088.Idx → Elt F .f32) (hpay : pay = histB I d L k0_t2_loop.trips) :
    ((oRowK L).view.loc (V d (cV L) (jV L)) ↦[(oRowK L).view.set]{fullShare}
        (oRowK L).view.writes (Elt F) f [⟨Rect.whole S25088, pay⟩] : sProp 𝕄)
      = oLoc d ↦[oRowSet (wL L)]{fullShare} (counts (F := F) (I d) : Buf (Elt F) (oLoc d)) := by
  rw [← pts_oRowK]
  refine pointsTo_congr fun i hi => ?_
  obtain ⟨x, -, rfl⟩ := Finset.mem_map.mp hi
  obtain ⟨h0, h1⟩ := oRowK_emb L x
  subst hpay
  have e := View.read_writes_cons_hit_of_coords (oRowK L).view f (Rect.whole S25088) (histB I d L k0_t2_loop.trips) [] x x
    (fun a => by show (x a).val = 0 + 1 * (x a).val; omega)
  have e' : (oRowK L).view.read (Elt F) ((oRowK L).view.writes (Elt F) f [⟨Rect.whole S25088, histB I d L k0_t2_loop.trips⟩]) x
      = (oRowK L).view.writes (Elt F) f [⟨Rect.whole S25088, histB I d L k0_t2_loop.trips⟩] ((oRowK L).view.emb x) :=
    (View.read_apply _ _).trans (cast_eq _ _)
  refine e'.symm.trans (e.trans ?_)
  exact (counts_apply (F := F) (I d) _ (wL L) x h0 h1).symm

set_option maxHeartbeats 4000000 in
/-- The worker `(L 0, L 1)`: from its ids and its row of the counts, the row left at `counts`. -/
theorem tile_body (hF : (K (F := F)).Facts) (hpre : IdsOK I) (O : CellTallies nD τ sig (HIx 1)) (W : Waits sig (HIx 1)) (hO : ∀ g, O g none = 0) :
    iprop(levAts (K (F := F)).L (K (F := F)).lev ∗ emp
        ∗ goP m I d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__histogram L iV (Memref.isWhole_whole _) oV (Memref.isWhole_whole _)
            sV (Memref.isWhole_whole _) hV (Memref.isWhole_whole _) cc0_scoped0 cc0_scoped1)
          fun _ => iprop(tdP I d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__histogram_eq_skeleton]; unfold cc0__histogram_skel
  rw [(K (F := F)).scopedBufs_V hF d (cV L) (jV L), SparseCore.Cfg.scopedSems0_V (Val := Elt F) d (cV L) (jV L), ownSems0_V, ownBufs_V]
  iintro ⟨#Hlv, -, ⟨Hi, Ho⟩, ⟨⟨%fs, Hs⟩, ⟨%fr, Hr⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sV (F := F) d L _).symm) $$ Hs
  ihave Hr' := (Entails.of_eq (pts_hV (F := F) d L _).symm) $$ Hr
  sl_exec
  sl_for (inv1 (F := F) d L) $$ [Hr']
  case region =>
    intro k _
    unfold inv1
    iintro ⟨%g, %hg, Hr⟩
    sl_exec
    sl_step
    iexists _; isplitr
    swap; · iexact Hr
    ipureintro; exact clear_step d L k g hg
  · unfold inv1
    iexists fr; isplitr
    · ipureintro; intro j hj; omega
    · iexact Hr'
  iintro %_ HI
  unfold inv1
  icases HI with ⟨%g, %hg, Hr⟩
  obtain rfl : g = histB I d L 0 := funext fun j => hg j (lt_of_lt_of_le (show (j 0).val < 25088 from (j 0).isLt) (show 25088 ≤ 16 * k0_t1_loop.trips by rw [trips1]))
  ihave Hs2 := (Entails.of_eq (congrArg (fun f => ((sV).view.loc (V d (cV L) (jV L)) ↦{fullShare} f : sProp 𝕄)) (fetched_ids (F := F) I d L fs (tile_body.sl.dma0 I d L) rfl))) $$ Hs'
  sl_for (inv2 (F := F) I d L) $$ [Hs2 Hr]
  case region =>
    intro k _
    unfold inv2
    iintro ⟨Hs, Hr⟩
    sl_exec
    rw [wp_assume_of _ _ _ _ (chk_of_ok (F := F) I d L hpre k)]
    ihave Hr2 := (Entails.of_eq (pts_hV_whole (F := F) d L _).symm) $$ Hr
    iapply (SparseCore.wp_vectorStoreIdx 𝒱₀ (V d (cV L) (jV L)) none Set.univ (base := (hV : Memref sig .scVector .vmem S25088 .f32))) $$ Hr2
    iintro Hr2
    ihave Hr := (Entails.of_eq (pts_hV_whole (F := F) d L _)) $$ Hr2
    sl_step
    isplitl [Hs]; · iexact Hs
    iapply (Entails.of_eq (congrArg (fun f => ((hV).view.loc (V d (cV L) (jV L)) ↦{fullShare} f : sProp 𝕄)) (scattered (F := F) I d L k (chk_of_ok (F := F) I d L hpre k)))) $$ Hr
  · unfold inv2
    isplitl [Hs2]; · iexact Hs2
    iexact Hr
  iintro %_ HI
  unfold inv2
  icases HI with ⟨Hs, Hr⟩
  sl_exec
  sl_step
  isplitl [Hi' Ho']
  · isplitl [Hi']; · iapply (Entails.of_eq (pts_iRowK (F := F) d L _)); iexact Hi'
    iapply (Entails.of_eq (written_row (F := F) I d L (m (oLoc d)) (tile_body.sl.dma0_1 I d L) rfl)); iexact Ho'
  isplitl [Hs Hr Hbufs]
  · isplitl [Hs]; · iexists _; iexact Hs
    isplitl [Hr]; · iexists _; iexact Hr
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Tile

end Cert.Proof.KernelIdeal

end
-- ==== Proof.KernelIdealRegion.lean ====
module

public import proofs.«01_k».proof.Proof.KernelIdealTile
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value
public import Idealize.ShloMosaic.Lib.Pipeline.FrameBody
public import Idealize.ShloMosaic.Lib.VecWindow
public import Idealize.ShloMosaic.Lib.Pipeline.Frame

/-!
  The TensorCore kernel.

  Five grid points; point `t` reads rows `4000 t …` and `20000 + 1000 t …` of the transposed counts, rows `4000 t …` of
  one feature array and rows `1000 t …` of the other, and adds the two weighted row sums to the one block of the result;
  point 0 clears that block first and point 4 scales it last. `acc` is the block as a function of the points done.
-/

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body -/

/-- The condition under which the body clears the block: the grid coordinate is 0. -/
abbrev isFirst (i : grid1.Coords) : Prop :=
  Scalar.cmpi .ne (Scalar.extui (Scalar.cmpi .eq (BitVec.ofNat 32 (i 0).val) 0#32) : BitVec 32) 0#32 = 1#1
/-- The condition under which it scales the block: the grid coordinate is 4. -/
abbrev isLast (i : grid1.Coords) : Prop :=
  Scalar.cmpi .ne (Scalar.extui (Scalar.cmpi .eq (BitVec.ofNat 32 (i 0).val) 4#32) : BitVec 32) 0#32 = 1#1

theorem isFirst_iff : ∀ t : Fin cfg1.N, isFirst (grid1.coords t) ↔ t.val = 0 :=
  (by decide +kernel : ∀ t : Fin grid1.N, isFirst (grid1.coords t) ↔ t.val = 0)
theorem isLast_iff : ∀ t : Fin cfg1.N, isLast (grid1.coords t) ↔ t.val = 4 :=
  (by decide +kernel : ∀ t : Fin grid1.N, isLast (grid1.coords t) ↔ t.val = 4)

section Body

variable [∀ e, Nonempty (Elt F e)]
variable (c : Dev nD) (i : grid1.Coords)
  (M1 : Memref sig .tc .vmem S4000x32 .f32) (h1 : M1.IsWhole) (M2 : Memref sig .tc .vmem S1000x32 .f32) (h2 : M2.IsWhole)
  (M3 : Memref sig .tc .vmem S4000x256 .f32) (h3 : M3.IsWhole) (M4 : Memref sig .tc .vmem S1000x256 .f32) (h4 : M4.IsWhole)
  (M5 : Memref sig .tc .vmem S1x256 .f32) (h5 : M5.IsWhole)
  (x1 : Vec F S4000x32 .f32) (x2 : Vec F S1000x32 .f32) (x3 : Vec F S4000x256 .f32) (x4 : Vec F S1000x256 .f32)
  (x5 : Vec F S1x256 .f32)

/-- The first point clears the block, then adds its two products. -/
theorem body_first (hf : isFirst i) (hl : ¬isLast i) :
    (iprop(owns c M1 fullShare x1 ∗ owns c M2 fullShare x2 ∗ owns c M3 fullShare x3 ∗ owns c M4 fullShare x4 ∗ owns c M5 fullShare x5) : sProp 𝕄)
      ⊢ wp frame (wpE (defs₀ (F := F)) 𝒱₀ c none) Set.univ (cc1__matvec_body i M1 h1 M2 h2 M3 h3 M4 h4 M5 h5) fun _ =>
        iprop(owns c M1 fullShare x1 ∗ owns c M2 fullShare x2 ∗ owns c M3 fullShare x3 ∗ owns c M4 fullShare x4
          ∗ owns c M5 fullShare (k1_pay2 x1 x2 x3 x4 k1_pay1)) := by
  rw [cc1__matvec_body_eq_skeleton]
  unfold owns
  iintro ⟨⟨%f1, %e1, H1⟩, ⟨%f2, %e2, H2⟩, ⟨%f3, %e3, H3⟩, ⟨%f4, %e4, H4⟩, ⟨%f5, %e5, H5⟩⟩
  sl_exec
  sl_step
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr; swap; · iexact H5
  ipureintro
  sl_unfold_words
  rw [View.read_writes_full, View.readAt_full, View.readAt_full, View.readAt_full, View.readAt_full, View.readCov_full, e1, e2, e3, e4]

/-- A point that neither clears nor scales adds its two products to the block. -/
theorem body_mid (hf : ¬isFirst i) (hl : ¬isLast i) :
    (iprop(owns c M1 fullShare x1 ∗ owns c M2 fullShare x2 ∗ owns c M3 fullShare x3 ∗ owns c M4 fullShare x4 ∗ owns c M5 fullShare x5) : sProp 𝕄)
      ⊢ wp frame (wpE (defs₀ (F := F)) 𝒱₀ c none) Set.univ (cc1__matvec_body i M1 h1 M2 h2 M3 h3 M4 h4 M5 h5) fun _ =>
        iprop(owns c M1 fullShare x1 ∗ owns c M2 fullShare x2 ∗ owns c M3 fullShare x3 ∗ owns c M4 fullShare x4
          ∗ owns c M5 fullShare (k1_pay2 x1 x2 x3 x4 x5)) := by
  rw [cc1__matvec_body_eq_skeleton]
  unfold owns
  iintro ⟨⟨%f1, %e1, H1⟩, ⟨%f2, %e2, H2⟩, ⟨%f3, %e3, H3⟩, ⟨%f4, %e4, H4⟩, ⟨%f5, %e5, H5⟩⟩
  sl_exec
  sl_step
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr; swap; · iexact H5
  ipureintro
  sl_unfold_words
  rw [View.read_writes_full, View.readAt_full, View.readAt_full, View.readAt_full, View.readAt_full, View.readAt_full, e1, e2, e3, e4, e5]

/-- The last point adds its two products to the block, then scales it. -/
theorem body_last (hf : ¬isFirst i) (hl : isLast i) :
    (iprop(owns c M1 fullShare x1 ∗ owns c M2 fullShare x2 ∗ owns c M3 fullShare x3 ∗ owns c M4 fullShare x4 ∗ owns c M5 fullShare x5) : sProp 𝕄)
      ⊢ wp frame (wpE (defs₀ (F := F)) 𝒱₀ c none) Set.univ (cc1__matvec_body i M1 h1 M2 h2 M3 h3 M4 h4 M5 h5) fun _ =>
        iprop(owns c M1 fullShare x1 ∗ owns c M2 fullShare x2 ∗ owns c M3 fullShare x3 ∗ owns c M4 fullShare x4
          ∗ owns c M5 fullShare (k1_pay3 (k1_pay2 x1 x2 x3 x4 x5))) := by
  rw [cc1__matvec_body_eq_skeleton]
  unfold owns
  iintro ⟨⟨%f1, %e1, H1⟩, ⟨%f2, %e2, H2⟩, ⟨%f3, %e3, H3⟩, ⟨%f4, %e4, H4⟩, ⟨%f5, %e5, H5⟩⟩
  sl_exec
  sl_step
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr; swap; · iexact H5
  ipureintro
  sl_unfold_words
  rw [View.read_writes_full, View.readCov_full, View.readAt_full, View.readAt_full, View.readAt_full, View.readAt_full, View.readAt_full, e1, e2, e3, e4, e5]

end Body

/-! ## The values -/

section Values

variable (n : FVec F S25088x32 .f32) (xc : FVec F S20000x256 .f32) (xa : FVec F S5000x256 .f32)

/-- Rows `4000 t … 4000 t + 3999` of the transposed counts. -/
def cntA (t : ℕ) (h : t < 5) : FVec F S4000x32 .f32 := fun j => n fun a => match a with
  | ⟨0, _⟩ => ⟨4000 * t + (j 0).val, by have h1 : (j 0).val < 4000 := (j 0).isLt; show _ < 25088; omega⟩
  | ⟨1, _⟩ => j 1

/-- Rows `20000 + 1000 t … 20000 + 1000 t + 999` of the transposed counts. -/
def cntB (t : ℕ) (h : t < 5) : FVec F S1000x32 .f32 := fun j => n fun a => match a with
  | ⟨0, _⟩ => ⟨20000 + 1000 * t + (j 0).val, by have h1 : (j 0).val < 1000 := (j 0).isLt; show _ < 25088; omega⟩
  | ⟨1, _⟩ => j 1

/-- Rows `4000 t … 4000 t + 3999` of the first feature array. -/
def rowsA (t : ℕ) (h : t < 5) : FVec F S4000x256 .f32 := fun j => xc fun a => match a with
  | ⟨0, _⟩ => ⟨4000 * t + (j 0).val, by have h1 : (j 0).val < 4000 := (j 0).isLt; show _ < 20000; omega⟩
  | ⟨1, _⟩ => j 1

/-- Rows `1000 t … 1000 t + 999` of the second feature array. -/
def rowsB (t : ℕ) (h : t < 5) : FVec F S1000x256 .f32 := fun j => xa fun a => match a with
  | ⟨0, _⟩ => ⟨1000 * t + (j 0).val, by have h1 : (j 0).val < 1000 := (j 0).isLt; show _ < 5000; omega⟩
  | ⟨1, _⟩ => j 1

/-- The block after `t` points, unscaled. -/
def acc : ℕ → FVec F S1x256 .f32
  | 0 => k1_pay1
  | t + 1 => if h : t < 5 then k1_pay2 (cntA n t h) (cntB n t h) (rowsA xc t h) (rowsB xa t h) (acc t) else acc t

theorem acc_succ (t : ℕ) (h : t < 5) :
    acc n xc xa (t + 1) = k1_pay2 (cntA n t h) (cntB n t h) (rowsA xc t h) (rowsB xa t h) (acc n xc xa t) := by
  rw [acc, dif_pos h]

/-- The result: the block after all five points, scaled. -/
def scaled : FVec F S1x256 .f32 := k1_pay3 (acc n xc xa 5)

/-- What the block's buffer holds after point `t`. -/
def left (t : ℕ) : FVec F S1x256 .f32 := if t = 4 then scaled n xc xa else acc n xc xa (t + 1)

end Values

/-! ## The proof data -/

variable (V : (c : Dev nD) → (b : Ref sig .tc) → Buf (Elt F) ((c : Thread nD τ).loc b))

/-- The recorded waits the core may carry past the one SparseCore call: those of level at most 8. -/
def low (c : Dev nD) : Set (SemLoc sig × HIx 1) := {p | (K (F := F)).lev (SparseCore.T c, p.1) p.2 ≤ 8}

theorem lt5 (t : Fin cfg1.N) : t.val < 5 := Nat.lt_of_lt_of_eq t.isLt N_1

/-- The proof data of the kernel's one entry, from contents `V`: each input's buffer left as fetched, the result's at the
    running block. -/
def dat (c : Dev nD) : Dat τ (Elt F) (HIx 1) ℕ UU ℕ cfg1 c where
  A w := V c (Pipeline.arrRef spec1 w)
  after w t := match w with
    | ⟨0, _⟩ => cntA (V c main_v2) t.val (lt5 t)
    | ⟨1, _⟩ => cntB (V c main_v2) t.val (lt5 t)
    | ⟨2, _⟩ => rowsA (V c main_arg0) t.val (lt5 t)
    | ⟨3, _⟩ => rowsB (V c main_arg1) t.val (lt5 t)
    | ⟨4, _⟩ => left (V c main_v2) (V c main_arg0) (V c main_arg1) t.val
  Φ _ := BI.emp
  q w := Pipeline.shareOf spec1 w
  owed _ := 0
  recorded _ := low (F := F) c

/-- The one pipeline's proof data, as the family the region rule takes. -/
def pdats : (p : Fin 1) → (c : Dev nD) → Dat τ (Elt F) (HIx 1) ℕ UU ℕ (Pipeline.pin (pcfgs (F := F)) (fun q => (cfgs q).toPCfg_adm) p) c
  | ⟨0, _⟩ => fun c => dat V c

theorem clip_0 : ∀ (t : Fin cfg1.N) a, (cfg1.win 0).clip (cfg1.grid.coords t) a = none :=
  (by decide +kernel : ∀ (t : Fin grid1.N) a, win1_0.clip (grid1.coords t) a = none)
theorem clip_1 : ∀ (t : Fin cfg1.N) a, (cfg1.win 1).clip (cfg1.grid.coords t) a = none :=
  (by decide +kernel : ∀ (t : Fin grid1.N) a, win1_1.clip (grid1.coords t) a = none)

theorem clip_2 : ∀ (t : Fin cfg1.N) a, (cfg1.win 2).clip (cfg1.grid.coords t) a = none :=
  (by decide +kernel : ∀ (t : Fin grid1.N) a, win1_2.clip (grid1.coords t) a = none)
theorem clip_3 : ∀ (t : Fin cfg1.N) a, (cfg1.win 3).clip (cfg1.grid.coords t) a = none :=
  (by decide +kernel : ∀ (t : Fin grid1.N) a, win1_3.clip (grid1.coords t) a = none)

theorem index_0 : ∀ t : Fin cfg1.N, win1_0.index t 0 = t.val ∧ win1_0.index t 1 = 0 :=
  (by decide +kernel : ∀ t : Fin grid1.N, win1_0.index t 0 = t.val ∧ win1_0.index t 1 = 0)
theorem index_1 : ∀ t : Fin cfg1.N, win1_1.index t 0 = 20 + t.val ∧ win1_1.index t 1 = 0 :=
  (by decide +kernel : ∀ t : Fin grid1.N, win1_1.index t 0 = 20 + t.val ∧ win1_1.index t 1 = 0)
theorem index_2 : ∀ t : Fin cfg1.N, win1_2.index t 0 = t.val ∧ win1_2.index t 1 = 0 :=
  (by decide +kernel : ∀ t : Fin grid1.N, win1_2.index t 0 = t.val ∧ win1_2.index t 1 = 0)
theorem index_3 : ∀ t : Fin cfg1.N, win1_3.index t 0 = t.val ∧ win1_3.index t 1 = 0 :=
  (by decide +kernel : ∀ t : Fin grid1.N, win1_3.index t 0 = t.val ∧ win1_3.index t 1 = 0)

theorem before_2 (c : Dev nD) (t : Fin cfg1.N) (d) : (dat V c).before 2 t d = rowsA (V c main_arg0) t.val (lt5 t) := by
  rw [(dat V c).before_fetched 2 t (fetch1_2 t) d]
  funext j
  have hm : (cfg1.win 2).moved (cfg1.grid.coords t) j = true :=
    ((cfg1.win 2).moved_iff _ j).mpr fun a => by have := (j a).isLt; unfold Window.xsize; rw [clip_2 t a]; exact this
  unfold Dat.fetched Window.fill
  rw [dif_pos hm]
  refine (View.read_apply _ _).trans ((cast_eq _ _).trans ?_)
  show V c main_arg0 _ = V c main_arg0 _
  congr 1
  funext a
  apply Fin.ext
  match a with
  | ⟨0, _⟩ => show win1_2.index t 0 * 4000 + 1 * (j 0).val = 4000 * t.val + (j 0).val; rw [(index_2 t).1]; omega
  | ⟨1, _⟩ => show win1_2.index t 1 * 256 + 1 * (j 1).val = (j 1).val; rw [(index_2 t).2]; omega

theorem before_0 (c : Dev nD) (t : Fin cfg1.N) (d) : (dat V c).before 0 t d = cntA (V c main_v2) t.val (lt5 t) := by
  rw [(dat V c).before_fetched 0 t (fetch1_0 t) d]
  funext j
  have hm : (cfg1.win 0).moved (cfg1.grid.coords t) j = true :=
    ((cfg1.win 0).moved_iff _ j).mpr fun a => by have := (j a).isLt; unfold Window.xsize; rw [clip_0 t a]; exact this
  unfold Dat.fetched Window.fill
  rw [dif_pos hm]
  refine (View.read_apply _ _).trans ((cast_eq _ _).trans ?_)
  show V c main_v2 _ = V c main_v2 _
  congr 1
  funext a
  apply Fin.ext
  match a with
  | ⟨0, _⟩ => show win1_0.index t 0 * 4000 + 1 * (j 0).val = 4000 * t.val + (j 0).val; rw [(index_0 t).1]; omega
  | ⟨1, _⟩ => show win1_0.index t 1 * 32 + 1 * (j 1).val = (j 1).val; rw [(index_0 t).2]; omega

theorem before_1 (c : Dev nD) (t : Fin cfg1.N) (d) : (dat V c).before 1 t d = cntB (V c main_v2) t.val (lt5 t) := by
  rw [(dat V c).before_fetched 1 t (fetch1_1 t) d]
  funext j
  have hm : (cfg1.win 1).moved (cfg1.grid.coords t) j = true :=
    ((cfg1.win 1).moved_iff _ j).mpr fun a => by have := (j a).isLt; unfold Window.xsize; rw [clip_1 t a]; exact this
  unfold Dat.fetched Window.fill
  rw [dif_pos hm]
  refine (View.read_apply _ _).trans ((cast_eq _ _).trans ?_)
  show V c main_v2 _ = V c main_v2 _
  congr 1
  funext a
  apply Fin.ext
  match a with
  | ⟨0, _⟩ => show win1_1.index t 0 * 1000 + 1 * (j 0).val = 20000 + 1000 * t.val + (j 0).val; rw [(index_1 t).1]; omega
  | ⟨1, _⟩ => show win1_1.index t 1 * 32 + 1 * (j 1).val = (j 1).val; rw [(index_1 t).2]; omega

theorem before_3 (c : Dev nD) (t : Fin cfg1.N) (d) : (dat V c).before 3 t d = rowsB (V c main_arg1) t.val (lt5 t) := by
  rw [(dat V c).before_fetched 3 t (fetch1_3 t) d]
  funext j
  have hm : (cfg1.win 3).moved (cfg1.grid.coords t) j = true :=
    ((cfg1.win 3).moved_iff _ j).mpr fun a => by have := (j a).isLt; unfold Window.xsize; rw [clip_3 t a]; exact this
  unfold Dat.fetched Window.fill
  rw [dif_pos hm]
  refine (View.read_apply _ _).trans ((cast_eq _ _).trans ?_)
  show V c main_arg1 _ = V c main_arg1 _
  congr 1
  funext a
  apply Fin.ext
  match a with
  | ⟨0, _⟩ => show win1_3.index t 0 * 1000 + 1 * (j 0).val = 1000 * t.val + (j 0).val; rw [(index_3 t).1]; omega
  | ⟨1, _⟩ => show win1_3.index t 1 * 256 + 1 * (j 1).val = (j 1).val; rw [(index_3 t).2]; omega

/-- After the first point the result's buffer holds what the point before left. -/
theorem before_4 (c : Dev nD) (t : Fin cfg1.N) (ht : t.val ≠ 0) (d) :
    (dat V c).before 4 t d = acc (V c main_v2) (V c main_arg0) (V c main_arg1) t.val := by
  have h5 := lt5 t
  rw [(dat V c).before_of_pos 4 t ht ((cfg1.win 4).fetch_out rfl t) d, if_neg (by rw [flush1_4]; show ¬(t.val - 1) % 5 = 4; omega)]
  show left (V c main_v2) (V c main_arg0) (V c main_arg1) (t.val - 1) = _
  unfold left
  rw [if_neg (by omega), Nat.sub_add_cancel (by omega)]

/-! ## The body obligation -/

section Region

variable [∀ e, Nonempty (Elt F e)]

/-- The body at a point, from the point's four blocks and the running block to the running block after it. -/
theorem point_run (c : Dev nD) (t : Fin cfg1.N) (n : FVec F S25088x32 .f32) (xc : FVec F S20000x256 .f32) (xa : FVec F S5000x256 .f32)
    (X : FVec F S1x256 .f32) (hX : t.val ≠ 0 → X = acc n xc xa t.val) :
    (iprop(owns c (st1_0 t) fullShare (cntA n t.val (lt5 t)) ∗ owns c (st1_1 t) fullShare (cntB n t.val (lt5 t))
        ∗ owns c (st1_2 t) fullShare (rowsA xc t.val (lt5 t)) ∗ owns c (st1_3 t) fullShare (rowsB xa t.val (lt5 t))
        ∗ owns c (st1_4 t) fullShare X) : sProp 𝕄) ⊢
      wp frame (wpE (defs₀ (F := F)) 𝒱₀ c none) Set.univ (bodyAt1 t) fun _ => iprop(
        owns c (st1_0 t) fullShare (cntA n t.val (lt5 t)) ∗ owns c (st1_1 t) fullShare (cntB n t.val (lt5 t))
        ∗ owns c (st1_2 t) fullShare (rowsA xc t.val (lt5 t)) ∗ owns c (st1_3 t) fullShare (rowsB xa t.val (lt5 t))
        ∗ owns c (st1_4 t) fullShare (left n xc xa t.val)) := by
  have h5 := lt5 t
  by_cases h0 : t.val = 0
  · rw [show left n xc xa t.val = k1_pay2 (cntA n t.val h5) (cntB n t.val h5) (rowsA xc t.val h5) (rowsB xa t.val h5) k1_pay1 by
      unfold left; rw [if_neg (by omega), acc_succ _ _ _ _ h5, show acc n xc xa t.val = k1_pay1 by rw [h0]; rfl]]
    exact body_first c (grid1.coords t) (st1_0 t) _ (st1_1 t) _ (st1_2 t) _ (st1_3 t) _ (st1_4 t) _ _ _ _ _ X
      ((isFirst_iff t).mpr h0) (fun h => by have := (isLast_iff t).mp h; omega)
  rw [hX h0]
  by_cases h4 : t.val = 4
  · rw [show left n xc xa t.val = k1_pay3 (k1_pay2 (cntA n t.val h5) (cntB n t.val h5) (rowsA xc t.val h5) (rowsB xa t.val h5) (acc n xc xa t.val)) by
      unfold left scaled; rw [if_pos h4, ← acc_succ, h4]]
    exact body_last c (grid1.coords t) (st1_0 t) _ (st1_1 t) _ (st1_2 t) _ (st1_3 t) _ (st1_4 t) _ _ _ _ _ _
      (fun h => h0 ((isFirst_iff t).mp h)) ((isLast_iff t).mpr h4)
  · rw [show left n xc xa t.val = k1_pay2 (cntA n t.val h5) (cntB n t.val h5) (rowsA xc t.val h5) (rowsB xa t.val h5) (acc n xc xa t.val) by
      unfold left; rw [if_neg h4, acc_succ _ _ _ _ h5]]
    exact body_mid c (grid1.coords t) (st1_0 t) _ (st1_1 t) _ (st1_2 t) _ (st1_3 t) _ (st1_4 t) _ _ _ _ _ _
      (fun h => h0 ((isFirst_iff t).mp h)) (fun h => h4 ((isLast_iff t).mp h))

/-- The pipeline's body obligation. -/
theorem body_obligation (c : Dev nD) : BodyObligation (dat V c) (defs₀ (F := F)) 𝒱₀ (none : HIx 1) Set.univ := fun t => by
  rw [bigSep_W1, bigSep_W1]
  simp only [before_0, before_1, before_2, before_3]
  rw [show (dat V c).Φ t.castSucc = BI.emp from rfl, show (dat V c).Φ t.succ = BI.emp from rfl,
    show (dat V c).owesAt none t.succ = (dat V c).owesAt none t.castSucc from rfl]
  refine BIBase.Entails.trans ?_ ((wp_frame_l frame (wpE (defs₀ (F := F)) 𝒱₀ c none) Set.univ (p := bodyAt1 t) (R := (dat V c).owesAt none t.castSucc) (Q := fun _ => iprop(
        owns c (st1_0 t) fullShare (cntA (V c main_v2) t.val (lt5 t)) ∗ owns c (st1_1 t) fullShare (cntB (V c main_v2) t.val (lt5 t))
        ∗ owns c (st1_2 t) fullShare (rowsA (V c main_arg0) t.val (lt5 t)) ∗ owns c (st1_3 t) fullShare (rowsB (V c main_arg1) t.val (lt5 t))
        ∗ owns c (st1_4 t) fullShare (left (V c main_v2) (V c main_arg0) (V c main_arg1) t.val)))).trans
    (wp_mono frame _ _ fun _ => ?_))
  · iintro ⟨-, Howes, ⟨%d0, H0⟩, ⟨%d1, H1⟩, ⟨%d2, H2⟩, ⟨%d3, H3⟩, ⟨%d4, H4⟩⟩
    isplitl [Howes]; · iexact Howes
    iapply (point_run c t (V c main_v2) (V c main_arg0) (V c main_arg1) ((dat V c).before 4 t d4) fun ht => before_4 V c t ht d4)
    isplitl [H0]; · iexact H0
    isplitl [H1]; · iexact H1
    isplitl [H2]; · iexact H2
    isplitl [H3]; · iexact H3
    iexact H4
  · iintro ⟨HO, H0, H1, H2, H3, H4⟩
    isplitr; · iempintro
    isplitl [HO]; · iexact HO
    isplitl [H0]; · iexact H0
    isplitl [H1]; · iexact H1
    isplitl [H2]; · iexact H2
    isplitl [H3]; · iexact H3
    iexact H4

/-! ## The result array -/

/-- The result array after the one write-back. -/
theorem final (c : Dev nD) : (dat V c).arrAt 4 cfg1.N = scaled (V c main_v2) (V c main_arg0) (V c main_arg1) :=
  (dat V c).arrAt_eq_of_cover 4 (scaled (V c main_v2) (V c main_arg0) (V c main_arg1))
    (fun t hf => by
      have h4 : t.val = 4 := by have := (flush1_4 t).mp hf; have := lt5 t; omega
      obtain rfl : t = t1_4 := Fin.ext h4
      have hz' : (fun a => win1_4.index t1_4 a * main_v3.ty.shape.size a) = fun _ => 0 := funext fun a => by fin_cases a <;> decide
      exact (Memref.read_access_unit_zero (Elt F) main_v3 hz' (fun a => by rw [congrFun hz' a]; simp) _).symm)
    fun i => ⟨t1_4, (flush1_4 t1_4).mpr rfl, by
      show i ∈ ((View.whole main_v3).slice (win1_4.rect t1_4)).set
      rw [View.set_slice_whole, Rect.mem_set_unit]
      intro a
      have h0 : (i 0 : Nat) < 1 := (i 0).isLt
      have h1 : (i 1 : Nat) < 256 := (i 1).isLt
      match a with
      | ⟨0, _⟩ => show win1_4.index t1_4 0 * win1_4.size 0 ≤ (i 0 : Nat) ∧ (i 0 : Nat) < win1_4.index t1_4 0 * win1_4.size 0 + win1_4.xsize (grid1.coords t1_4) 0
                  rw [show win1_4.index t1_4 0 * win1_4.size 0 = 0 from by decide +kernel, show win1_4.xsize (grid1.coords t1_4) 0 = 1 from by decide +kernel]; omega
      | ⟨1, _⟩ => show win1_4.index t1_4 1 * win1_4.size 1 ≤ (i 1 : Nat) ∧ (i 1 : Nat) < win1_4.index t1_4 1 * win1_4.size 1 + win1_4.xsize (grid1.coords t1_4) 1
                  rw [show win1_4.index t1_4 1 * win1_4.size 1 = 0 from by decide +kernel, show win1_4.xsize (grid1.coords t1_4) 1 = 256 from by decide +kernel]; omega⟩

/-- The launch's buffers after the kernel: the result array at `scaled`, the others as they were. -/
def Vout (c : Dev nD) (b : Ref sig .tc) : Buf (Elt F) ((c : Thread nD τ).loc b) :=
  if h : b = main_v3 then h ▸ (scaled (V c main_v2) (V c main_arg0) (V c main_arg1) : FVec F S1x256 .f32) else V c b

theorem Vout_out (c : Dev nD) : Vout V c main_v3 = scaled (V c main_v2) (V c main_arg0) (V c main_arg1) := by
  unfold Vout; rw [dif_pos rfl]
theorem Vout_ne (c : Dev nD) (b : Ref sig .tc) (h : b ≠ main_v3) : Vout V c b = V c b := by
  unfold Vout; rw [dif_neg h]

/-- The core's debt outside the kernel: nothing owed, every recorded wait low. -/
abbrev idle (c : Dev nD) : sProp 𝕄 := iprop(∃ W : Waits sig (HIx 1), ⌜(↑W : Set (SemLoc sig × HIx 1)) ⊆ low (F := F) c⌝ ∗ owes (c : Thread nD τ) (0 : CellTallies nD τ sig (HIx 1)) W)

theorem bound_low (c : Dev nD) (t : Fin (cfg1.N + 1)) : (dat V c).bound none t ⊆ low (F := F) c := by
  rintro p (hp | ⟨w, s, rfl⟩)
  · exact hp
  · exact Nat.zero_le _

set_option backward.isDefEq.respectTransparency.types false in
/-- The kernel as a region: entered with every array of the core at `V`, left with them at `Vout V`. -/
def reg : Pipeline.RegionSeg (pcfgs (F := F)) (fun q => (cfgs q).toPCfg_adm) (pdats V) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idle c)
  post c := iprop(unscopedBufs c (Vout V c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs_shared (p := 0) (pcfgs (F := F)) (fun q => (cfgs q).toPCfg_adm) (pdats V) winFacts₀1 sharedIn1 arr_whole1 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩; iexists W; isplitr; · ipureintro; exact fun p hp => Or.inl (hW hp)
      iexact HO
    isplitr; · iempintro
    iexact Hrest
  hin c := by
    rw [show (pdats V 0 c).Φ 0 = BI.emp from rfl]
    iintro -; iempintro
  hout c := by
    rw [Pipeline.ownSems0_none, show (Pipeline.scopedRest (pcfgs (F := F) 0).spec c : sProp 𝕄) = BI.emp from scopedRest1_eq c]
    iintro -
    isplitr; · iempintro
    isplitr; · iempintro
    iempintro
  hexit c := by
    have hjoin := Pipeline.unscopedBufs_of_arrays_shared (p := 0) (pcfgs (F := F)) (fun q => (cfgs q).toPCfg_adm) (Ix := HIx 1) (Name := ℕ) (U := UU) (Lvl := ℕ)
      winFacts₀1 sharedIn1 arr_whole1 c (pdats V) (fun _ _ => rfl) (V c) (Vout V c) ((pdats V 0 c).arrAt · cfg1.N)
      (fun w => by
        fin_cases w
        · exact ((dat V c).arrAt_in 0 rfl _).trans (Vout_ne V c main_v2 (by decide)).symm
        · exact ((dat V c).arrAt_in 1 rfl _).trans (Vout_ne V c main_v2 (by decide)).symm
        · exact ((dat V c).arrAt_in 2 rfl _).trans (Vout_ne V c main_arg0 (by decide)).symm
        · exact ((dat V c).arrAt_in 3 rfl _).trans (Vout_ne V c main_arg1 (by decide)).symm
        · exact (final V c).trans (Vout_out V c).symm)
      (fun b hb => Vout_ne V c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    icases HO with ⟨%W, %hW, HO⟩; iexists W
    isplitr; · ipureintro; exact hW.trans (bound_low V c _)
    iexact HO

end Region

end Cert.Proof.KernelIdeal

end
-- ==== Proof.KernelIdealLaunch.lean ====
module

public import proofs.«01_k».proof.Proof.KernelIdealTile
public import proofs.«01_k».proof.Proof.KernelIdealRegion

/-!
  The whole program.

  @main flattens the ids, starts the thirty-two workers, transposes their counts and runs the TensorCore kernel on them.
  `run_main` says, at any float operations and for ids below 25000: every weakly fair execution of the device's threads
  terminates without a fault, the three arguments are unchanged, the result array holds `out`, and every semaphore is
  back at zero.
-/

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

/-! ## The workers' obligation -/

section Tiles

variable [FloatOps F] (m : (ℓ : Loc nD τ sig) → Buf (Elt F) ℓ) (I : (d : Dev nD) → Buf (Elt F) (iLoc d))

/-- The grid point of worker `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__histogram (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsOK I) : (K (F := F)).TileObl (D (F := F)) 𝒱 (P m I) v₀ 0 := by
  intro d c i O W hO _ _
  simp only [show (P m I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m I d (coordsV ⟨_, hci.1⟩ ⟨_, hci.2⟩) hF hpre O W hO).trans (wp_mono frame _ _ fun _ => obl_post)

/-- A SparseCore's payload is its workers', dealt out and gathered in as it is. -/
theorem vecSplit : (K (F := F)).VecSplit' (P m I) 0 := by
  intro d c
  show (bigSep Finset.univ fun i : Fin 16 => goP m I d (wk (Fin.cast nCore_zero c) i) : sProp 𝕄) ⊢ |={Set.univ}=> iprop(
      (bigSep Finset.univ fun i : Fin 16 => goP m I d (wk (Fin.cast nCore_zero c) i))
      ∗ ((bigSep Finset.univ fun i : Fin 16 => tdP I d (wk (Fin.cast nCore_zero c) i))
          -∗ (bigSep Finset.univ fun i : Fin 16 => tdP I d (wk (Fin.cast nCore_zero c) i))))
  iintro H; imodintro
  isplitl [H]; · iexact H
  iintro H; iexact H

end Tiles

/-! ## The ids and the counts, split among the workers and joined again -/

theorem iRowSet_eq (w : Fin 32) : iRowSet w = (irow w).set := by
  show ((View.whole main_v0_scv).slice (irow w)).set = _
  rw [View.set_slice]; exact Finset.map_refl
theorem oRowSet_eq (w : Fin 32) : oRowSet w = (orow w).set := by
  show ((View.whole main_v1_scv).slice (orow w)).set = _
  rw [View.set_slice]; exact Finset.map_refl

theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]

/-- Workers are named by their number or by SparseCore and subcore. -/
def wkEquiv : Fin 2 × Fin 16 ≃ Fin 32 where
  toFun p := wk p.1 p.2
  invFun w := (⟨w.val % 2, by omega⟩, ⟨w.val / 2, by omega⟩)
  left_inv p := by
    obtain ⟨c, i⟩ := p
    refine Prod.ext (Fin.ext ?_) (Fin.ext ?_)
    · show (i.val * 2 + c.val) % 2 = c.val; omega
    · show (i.val * 2 + c.val) / 2 = i.val; omega
  right_inv w := Fin.ext (by show w.val / 2 * 2 + w.val % 2 = w.val; omega)

theorem bigSep_workers (Φ : Fin 32 → sProp 𝕄) :
    (bigSep Finset.univ fun c : Fin ((K (F := F)).nCore 0) => bigSep Finset.univ fun i : Fin 16 => Φ (wk (Fin.cast nCore_zero c) i)) = bigSep Finset.univ Φ := by
  rw [bigSep_univ_equiv wkEquiv Φ, bigSep_univ_prod]
  rfl

section Main

variable [FloatOps F] (m : (ℓ : Loc nD τ sig) → Buf (Elt F) ℓ) (ρ : Dev nD → PrngReg) (I : (d : Dev nD) → Buf (Elt F) (iLoc d))

/-- The SparseCores together take the ids and the counts' array, -/
theorem st0_eq (d : Dev nD) : (bigSep Finset.univ fun c : Fin ((K (F := F)).nCore 0) => (P m I).st 0 d c)
    = iprop((iLoc d ↦{fullShare} I d) ∗ oLoc d ↦{fullShare} m (oLoc d)) := by
  rw [show (bigSep Finset.univ fun c : Fin ((K (F := F)).nCore 0) => (P m I).st 0 d c) = _ from bigSep_workers (F := F) (fun w => goP m I d w),
    bigSep_sep', iPts_rows, oPts_rows]
/-- and give both back, the array at the counts. -/
theorem dn0_eq (d : Dev nD) : (bigSep Finset.univ fun c : Fin ((K (F := F)).nCore 0) => (P m I).dn 0 d c)
    = iprop((iLoc d ↦{fullShare} I d) ∗ oLoc d ↦{fullShare} counts (I d)) := by
  rw [show (bigSep Finset.univ fun c : Fin ((K (F := F)).nCore 0) => (P m I).dn 0 d c) = _ from bigSep_workers (F := F) (fun w => tdP I d w),
    bigSep_sep', iPts_rows, oPts_rows]

/-! ## The ghost state -/

/-- The TensorCore pipeline's rounds library, in the middle of the certificate's algebra. -/
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance : (ER : Emb UR 𝕄).LandsIn (upEmb : UEmb _ 𝕄) := by unfold ER; infer_instance

/-- The pipelines, with their (absent) tables. -/
abbrev pins := Pipeline.pin (pcfgs (F := F)) (fun q => (cfgs q).toPCfg_adm)

/-- The ghost state the TensorCore's pipeline starts from. -/
abbrev G (d : Dev nD) : sProp 𝕄 := iprop(Pipeline.cellsGhost (pins (F := F)) ER 0 d ∗ Pipeline.toksInit (pins (F := F)) ER 0 d)

def u₀ : UU := (initOf (K (F := F)).hsCells (K (F := F)).hsToks,
  (initOf (Pipeline.cells (pins (F := F)) cellOf_inj) (Pipeline.launchToks (pins (F := F)) cellOf_inj), 1))

theorem ownU_split (a : UH) (b : UR) : (ownU ((a, (b, 1)) : UU) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem G_intro : iprop((bigSep Finset.univ fun c : Dev nD => bigSep Finset.univ fun p => Pipeline.cellsGhost (pins (F := F)) ER p c)
    ∗ (bigSep Finset.univ fun c : Dev nD => bigSep Finset.univ fun p => (Pipeline.toksInit (pins (F := F)) ER p c : sProp 𝕄)))
    ⊢ (bigSep Finset.univ fun d : Dev nD => G (F := F) d) := by
  rw [bigSep_sep']
  exact BIClass.sep_mono (Entails.of_eq (bigSep_congr fun _ _ => bigSep_univ_of_subsingleton (0 : Fin 1)))
    (Entails.of_eq (bigSep_congr fun _ _ => bigSep_univ_of_subsingleton (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m I).x q thr) := by
  unfold u₀
  iintro Hu
  ihave H := (ownU_split _ _) $$ Hu
  icases H with ⟨HH, HR⟩
  imod (Pipeline.fund_ghost (pins (F := F)) ER cellOf_inj) $$ HR with HG
  imodintro
  isplitl [HH]; · iexact HH
  isplitl [HG]; · iapply G_intro; iexact HG
  rw [show (bigSep Finset.univ fun thr : Thread nD τ => bigSep Finset.univ fun q : Fin 1 => (P (F := F) m I).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev i' : DevRef τ sig := Proc.devRef .tc (main_v0 : Ref sig .tc)
abbrev o' : DevRef τ sig := Proc.devRef .tc (main_v1 : Ref sig .tc)
abbrev t' : DevRef τ sig := Proc.devRef .tc (main_v2 : Ref sig .tc)
abbrev r' : DevRef τ sig := Proc.devRef .tc (main_v3 : Ref sig .tc)

/-- The flattening of the ids and the transposition of the counts. -/
abbrev opFlat : HloOp τ sig (Elt F) := StableHlo.reshape main_arg2 main_v0 (rfl : (.i32 : EltTy) = .i32) shapeCasts_S1000x32x32_S1024000
abbrev opTr : HloOp τ sig (Elt F) :=
  StableHlo.unary main_v1 main_v2 ((transpose S25088x32 [1, 0] · transposes_S32x25088_S25088x32_1_0) : (⟨S32x25088, .f32⟩ : BufTy).Contents (Elt F) → (⟨S25088x32, .f32⟩ : BufTy).Contents (Elt F))

/-- The TensorCore's arrays: the three arguments, the flat ids, the counts, their transpose, the result. -/
abbrev S7 : Finset (DevRef τ sig) := {a0', a1', a2', i', o', t', r'}

theorem held_S7 (d : Dev nD) (W : Valuation τ sig (Elt F)) :
    (held (T d) S7 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ (iLoc d ↦{fullShare} W i') ∗ (oLoc d ↦{fullShare} W o') ∗ ((SparseCore.T d).loc main_v2 ↦{fullShare} W t') ∗ (SparseCore.T d).loc main_v3 ↦{fullShare} W r') := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2)
          ∗ (iLoc d ↦{fullShare} W main_v0) ∗ (oLoc d ↦{fullShare} W main_v1) ∗ ((SparseCore.T d).loc main_v2 ↦{fullShare} W main_v2)
          ∗ (SparseCore.T d).loc main_v3 ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The arrays at launch, with the ids flattened, with the counts in, with the counts transposed. -/
def V0 (d : Dev nD) : Valuation τ sig (Elt F) := fun b => m (d, b)
def V1 (d : Dev nD) : Valuation τ sig (Elt F) := (opFlat (F := F)).result (V0 m d)
/-- The flat ids. -/
def flat (d : Dev nD) : Buf (Elt F) (iLoc d) := V1 m d i'
def V2 (d : Dev nD) : Valuation τ sig (Elt F) := Function.update (V1 m d) o' (counts (flat m d) : Buf (Elt F) (oLoc d))
def V3 (d : Dev nD) : Valuation τ sig (Elt F) := (opTr (F := F)).result (V2 m d)
/-- The same by reference, as the TensorCore kernel is entered with them. -/
def Vin (c : Dev nD) (b : Ref sig .tc) : Buf (Elt F) ((c : Thread nD τ).loc b) := V3 m c (Proc.devRef .tc b)

theorem unscoped_V0 (d : Dev nD) : (unscopedBufs d (fun b => m ((SparseCore.T d).loc b)) : sProp 𝕄) = held (T d) S7 (V0 m d) := by
  rw [unscopedBufs_eq, held_S7]; rfl
theorem unscoped_V3 (d : Dev nD) : (unscopedBufs d (Vin m d) : sProp 𝕄) = held (T d) S7 (V3 m d) := by
  rw [unscopedBufs_eq, held_S7]; rfl

theorem V1_ne (d : Dev nD) {b : DevRef τ sig} (h : b ∉ ({i'} : Finset (DevRef τ sig))) : V1 m d b = m (d, b) :=
  (opFlat (F := F)).result_of_not_mem _ h
theorem V2_o (d : Dev nD) : V2 m d o' = counts (flat m d) := Function.update_self _ _ _
theorem V2_ne (d : Dev nD) {b : DevRef τ sig} (h : b ≠ o') : V2 m d b = V1 m d b := Function.update_of_ne h _ _
theorem V3_ne (d : Dev nD) {b : DevRef τ sig} (h : b ∉ ({t'} : Finset (DevRef τ sig))) : V3 m d b = V2 m d b :=
  (opTr (F := F)).result_of_not_mem _ h

theorem Vin_arg0 (d : Dev nD) : Vin m d main_arg0 = m ((SparseCore.T d).loc main_arg0) :=
  (V3_ne m d (b := a0') (by decide)).trans ((V2_ne m d (b := a0') (by decide)).trans (V1_ne m d (b := a0') (by decide)))
theorem Vin_arg1 (d : Dev nD) : Vin m d main_arg1 = m ((SparseCore.T d).loc main_arg1) :=
  (V3_ne m d (b := a1') (by decide)).trans ((V2_ne m d (b := a1') (by decide)).trans (V1_ne m d (b := a1') (by decide)))
theorem Vin_arg2 (d : Dev nD) : Vin m d main_arg2 = m ((SparseCore.T d).loc main_arg2) :=
  (V3_ne m d (b := a2') (by decide)).trans ((V2_ne m d (b := a2') (by decide)).trans (V1_ne m d (b := a2') (by decide)))
theorem Vin_v2 (d : Dev nD) : Vin m d main_v2 = transpose S25088x32 [1, 0] (counts (flat m d) : FVec F S32x25088 .f32) transposes_S32x25088_S25088x32_1_0 :=
  (show (opTr (F := F)).result (V2 m d) t' = transpose S25088x32 [1, 0] (V2 m d o' : FVec F S32x25088 .f32) transposes_S32x25088_S25088x32_1_0 from
    StableHlo.unary_result _ _ _ _ _ _).trans (by rw [V2_o])

/-- What the result array holds at the end. -/
def out (d : Dev nD) : FVec F S1x256 .f32 :=
  scaled (transpose S25088x32 [1, 0] (counts (flat m d) : FVec F S32x25088 .f32) transposes_S32x25088_S25088x32_1_0)
    (m ((SparseCore.T d).loc main_arg0) : FVec F S20000x256 .f32) (m ((SparseCore.T d).loc main_arg1) : FVec F S5000x256 .f32)

/-- What @main leaves the claims: the arguments at their launch contents, the result at `out`. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_v3 ↦{fullShare} (out m d : Buf (Elt F) ((SparseCore.T d).loc main_v3))))

theorem unscoped_out (d : Dev nD) : (unscopedBufs d (Vout (Vin m) d) : sProp 𝕄) ⊢ FIN m d := by
  rw [unscopedBufs_eq, Vout_ne _ d main_arg0 (by decide), Vout_ne _ d main_arg1 (by decide), Vout_ne _ d main_arg2 (by decide), Vout_out,
    Vin_arg0, Vin_arg1, Vin_arg2, Vin_v2]
  iintro ⟨H0, H1, H2, -, -, -, H3⟩
  isplitl [H0]; · iexact H0
  isplitl [H1]; · iexact H1
  isplitl [H2]; · iexact H2
  iexact H3

theorem hFlat : (opFlat (F := F)).bufs ⊆ S7 := show ({a2', i'} : Finset (DevRef τ sig)) ⊆ S7 by decide
theorem hTr : (opTr (F := F)).bufs ⊆ S7 := show ({o', t'} : Finset (DevRef τ sig)) ⊆ S7 by decide

/-- The TensorCore kernel's call is its region's, lifted into the whole program's signature. -/
theorem lift_entry :
    (SparseCore.liftProg (Q := 1) (pr := Proc.tc) (Prog.op (.customCall (Pipeline.entry 0) ()) fun _ => .ret ⟨⟩ : Prog (TpuEff nD τ sig (Elt F) (ΛP (F := F)) .tc) PUnit))
      = Prog.lift (.customCall (SparseCore.inner (Pipeline.entry 0)) ()) := rfl

set_option backward.isDefEq.respectTransparency.types false in
/-- The TensorCore kernel's call in its own signature. -/
theorem region_inner [∀ e, Nonempty (Elt F e)] (d : Dev nD) (Q : PUnit → sProp 𝕄) :
    (iprop((iprop(boundary (d : Thread nD τ) ∗ (reg (Vin m)).post d) -∗ wp frame (wpE (D (F := F)) 𝒱 (d : Thread nD τ) none) Set.univ (.ret ⟨⟩) Q)
      ∗ boundary (d : Thread nD τ) ∗ (reg (Vin m)).pre d ∗ levAts (K (F := F)).L (K (F := F)).lev ∗ G d) : sProp 𝕄)
      ⊢ wp frame (wpE (D (F := F)) 𝒱 (d : Thread nD τ) none) Set.univ (Prog.op (.customCall (Pipeline.entry 0) ()) fun _ => .ret ⟨⟩) Q := by
  have h := Pipeline.RegionSeg.wp (pcfgs (F := F)) (fun q => (cfgs q).toPCfg_adm) (pdats (Vin m)) (none : HIx 1) cellOf_inj ER defs₀ 𝒱₀
    (K (F := F)).L (K (F := F)).lev (reg (Vin m)) d none (fun _ h => nomatch h) (fun _ => .ret ⟨⟩) Q
  exact h

/-- The TensorCore kernel's call, under the whole program's bodies. -/
theorem region_wp [∀ e, Nonempty (Elt F e)] (d : Dev nD) :
    (iprop(boundary (T d) ∗ (unscopedBufs d (Vin m d) ∗ idle d) ∗ levAts (K (F := F)).L (K (F := F)).lev ∗ G d) : sProp 𝕄)
      ⊢ wp frame (wpE ((K (F := F)).defs (D (F := F))) 𝒱 (SparseCore.T d) none) Set.univ (Prog.lift (.customCall (SparseCore.inner (Pipeline.entry 0)) ()))
          fun _ => iprop(boundary (T d) ∗ unscopedBufs d (Vout (Vin m) d) ∗ idle d) := by
  rw [← lift_entry]
  refine BIBase.Entails.trans ?_ ((K (F := F)).wp_liftProg (D (F := F)) 𝒱 (SparseCore.T d) Set.univ none _ _)
  refine BIBase.Entails.trans ?_ (region_inner m d _)
  rw [show (reg (Vin m)).pre d = iprop(unscopedBufs d (Vin m d) ∗ idle d) from rfl,
    show (reg (Vin m)).post d = iprop(unscopedBufs d (Vout (Vin m) d) ∗ idle d) from rfl]
  iintro ⟨Hb, Hpre, Hlv, HG⟩
  isplitr
  · iintro H; rw [wp_ret]; imodintro; iexact H
  isplitl [Hb]; · iexact Hb
  isplitl [Hpre]; · iexact Hpre
  isplitl [Hlv]; · iexact Hlv
  iexact HG

/-- After its one call the TensorCore owes nothing and its recorded waits are low: its state gives that up and takes it back. -/
theorem tcSt_idle (d : Dev nD) : ((K (F := F)).tcSt EH d 1 : sProp 𝕄) ⊢ iprop(idle d ∗ (idle d -∗ (K (F := F)).tcSt EH d 1)) := by
  unfold SparseCore.Cfg.tcSt
  rw [(K (F := F)).Otc_end d le_rfl]
  iintro ⟨⟨%W, %hW, HO⟩, H⟩
  isplitl [HO]
  · iexists W; isplitr
    · ipureintro; exact fun p hp => hW p hp
    · iexact HO
  iintro ⟨%W', %hW', HO⟩
  isplitl [HO]
  · iexists W'; isplitr
    · ipureintro; exact fun p hp => hW' hp
    · iexact HO
  iexact H

/-- @main on device `d`'s TensorCore. -/
theorem hmain [∀ e, Nonempty (Elt F e)] (κ : GSem nD τ sig → ℕ) (d : Dev nD) :
    iprop((K (F := F)).ctx EH (P m (flat m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_V0]
  simp only [main, wp_bind, wp_pure]
  iintro ⟨#Hctx, Hst, ⟨Hb, Hheld, Hts, -⟩, HG⟩
  iapply (wp_hlo_within 𝒱 (SparseCore.T d) none Set.univ (op := opFlat) (S := S7) hFlat (V := V0 m d)) $$ [Hb Hheld]
  · isplitl [Hb] <;> iassumption
  iintro ⟨Hb, Hheld⟩
  rw [wp_ret]; imodintro
  ihave Hh := (Entails.of_eq (show (held (T d) S7 ((opFlat (F := F)).result (V0 m d)) : sProp 𝕄) = _ from held_S7 d (V1 m d))) $$ Hheld
  icases Hh with ⟨H0, H1, H2, Hi, Ho, Ht, Hr⟩
  iapply ((K (F := F)).wp_run (D (F := F)) 𝒱 (EH := EH) (P := P m (flat m)) κ d 0) $$ [Hst Hi Ho H0 H1 H2 Ht Hr Hb Hts HG]
  isplitr; · iexact Hctx
  isplitl [Hst]; · iexact Hst
  isplitl [Hi Ho]
  · rw [st0_eq, show V1 m d o' = m (oLoc d) from V1_ne m d (by decide)]
    isplitl [Hi]; · iexact Hi
    iexact Ho
  iintro ⟨Hst, Hdn⟩
  ihave Hdn' := (Entails.of_eq (dn0_eq m (flat m) d)) $$ Hdn
  icases Hdn' with ⟨Hi, Ho⟩
  iapply (wp_hlo_within 𝒱 (SparseCore.T d) none Set.univ (op := opTr) (S := S7) hTr (V := V2 m d)) $$ [Hb H0 H1 H2 Hi Ho Ht Hr]
  · isplitl [Hb]; · iexact Hb
    rw [held_S7, V2_o, V2_ne m d (b := a0') (by decide), V2_ne m d (b := a1') (by decide), V2_ne m d (b := a2') (by decide),
      V2_ne m d (b := i') (by decide), V2_ne m d (b := t') (by decide), V2_ne m d (b := r') (by decide)]
    isplitl [H0]; · iexact H0
    isplitl [H1]; · iexact H1
    isplitl [H2]; · iexact H2
    isplitl [Hi]; · iexact Hi
    isplitl [Ho]; · iexact Ho
    isplitl [Ht]; · iexact Ht
    iexact Hr
  iintro ⟨Hb, Hheld⟩
  rw [wp_ret]; imodintro
  ihave Hub := (Entails.of_eq (show (held (T d) S7 ((opTr (F := F)).result (V2 m d)) : sProp 𝕄) = _ from (unscoped_V3 m d).symm)) $$ Hheld
  ihave Hsp := (show ((K (F := F)).tcSt EH d ((0 : Fin 1).val + 1) : sProp 𝕄) ⊢ _ from tcSt_idle d) $$ Hst
  icases Hsp with ⟨Hid, Hback⟩
  iapply (wp_wand_r frame _ Set.univ)
  isplitl [Hb Hub Hid HG]
  · iapply (region_wp m d)
    isplitl [Hb]; · iexact Hb
    isplitl [Hub Hid]; · isplitl [Hub] <;> iassumption
    isplitr; · iapply ((K (F := F)).ctx_levAts κ); iexact Hctx
    iexact HG
  iintro %_ ⟨Hb, Hub, Hid⟩
  imodintro
  isplitl [Hback Hid]; · iapply Hback; iexact Hid
  isplitl [Hub]; · iapply (unscoped_out m d); iexact Hub
  isplitl [Hb] <;> iassumption

/-! ## The run -/

/-- What the claims read of a device's final state. -/
def fq (d : Dev nD) (s' : Phys nD τ sig (Elt F)) : Prop :=
  s'.mem.mem ((SparseCore.T d).loc main_v3) = (out m d : Buf (Elt F) ((SparseCore.T d).loc main_v3))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_v3) (I := Finset.univ) (q := fullShare) (f := (out m d : Buf (Elt F) ((SparseCore.T d).loc main_v3)))) $$ [HSI H3]
  · isplitl [HSI] <;> iassumption
  icases H with %h3
  ipureintro
  exact ⟨funext fun i => h3 i (Finset.mem_univ i), funext fun i => h0 i (Finset.mem_univ i), funext fun i => h1 i (Finset.mem_univ i), funext fun i => h2 i (Finset.mem_univ i)⟩

/-- The final memory: the result at `out`, the arguments unchanged, the semaphores at zero. -/
def QC : PUnit × MemSt nD τ sig (Elt F) → Prop := fun r =>
  (∀ c : Dev nD, r.2.mem ((SparseCore.T c).loc main_v3) = (out m c : Buf (Elt F) ((SparseCore.T c).loc main_v3))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)) ∧ r.2.sem = fun _ => 0

/-- The whole program, from ids below 25000. -/
theorem run_main [∀ e, Nonempty (Elt F e)] (hpre : IdsOK (flat m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (flat m)) (A := ∅) facts v₀
    (fun q hq => match q with | 0 => nomatch hq)
    (fun q _ => match q with | 0 => tileObl m (flat m) facts hpre)
    (fun q _ => match q with | 0 => SparseCore.Cfg.VecSplit.of_plain (vecSplit m (flat m)))
    m ρ main (fun d => G d) (FIN m) (u₀ (F := F)) (sep_elim_left.trans (hu₀ m (flat m))) (hmain m ρ) (fq m) (hfin m) (QC m) (fun _ h hz => ⟨h, hz⟩)

end Main

end Cert.Proof.KernelIdeal

end
-- ==== Proof.KernelIdealFlat.lean ====
module

public import proofs.«01_k».proof.Proof.KernelIdealLaunch
public import proofs.«01_k».proof.Proof.InRange

/-! The flattened ids: the ids of the argument in row-major order, hence in range when the precondition holds. -/

@[expose] public section

noncomputable section

namespace Cert.Proof.KernelIdeal

open Cert.KernelIdeal Cert.KernelIdeal.Gen
open Idealize.ShloMosaic
open Idealize.ShloMosaic.TcCoe

variable {F : FTy → Type} [FloatOps F]
variable (m : (ℓ : Loc nD τ sig) → Buf (Elt F) ℓ)

/-- The flat ids are the argument's, in row-major order. -/
theorem flat_eq (d : Dev nD) :
    flat m d = shapeCast S1024000 (m ((SparseCore.T d).loc main_arg2) : IVec S1000x32x32 32) shapeCasts_S1000x32x32_S1024000 := by
  have e := StableHlo.reshape_result main_arg2 main_v0 (rfl : (.i32 : EltTy) = .i32) shapeCasts_S1000x32x32_S1024000 ⟨by decide, rfl⟩ ⟨by decide, rfl⟩ (V0 m d)
  unfold flat V1
  refine e.trans ?_
  funext i
  rfl

/-- Under the precondition every flat id is below 25000. -/
theorem flat_ok (h : ∀ c : Dev nD, Cert.Pre_in_range.fn (m ((c : Thread nD τ).loc main_arg0)) (m ((c : Thread nD τ).loc main_arg1))
      (m ((c : Thread nD τ).loc main_arg2)) = fun _ => 1#1) : IdsOK (flat m) := by
  intro d j
  rw [flat_eq]
  exact ids_lt _ _ _ (h d) _

end Cert.Proof.KernelIdeal

end
-- ==== Proof.Frames.lean ====
module

public import proofs.«01_k».proof.Defs
public import proofs.«01_k».proof.Proof.KernelFlat
public import proofs.«01_k».proof.Proof.KernelIdealFlat
public import proofs.«01_k».proof.Proof.Gen.ReferenceIdeal
public import proofs.«01_k».proof.Proof.Gen.ReferenceIdeal.Run
public import Idealize.ShloMosaic.Lib.Quiescent

/-!
  The frame claims: each program runs to its end without a fault, leaves its arguments as they were, and ends with every
  semaphore at zero. The kernels' are their launches' conclusions under the precondition; the reference has no semaphore.
-/

@[expose] public section

noncomputable section

namespace Cert.Proof

open Idealize.ShloMosaic Idealize.SL.Sem

/-- The kernel's frame, under the precondition. -/
theorem frame_kernel : Cert.quiescent_Kernel := fun m ρ hpre =>
  (θ_run Cert.Kernel.defs _ _).mono (fun _ h => ⟨fun c => (h.1 c).2, h.2⟩) (Kernel.run_main (F := Bits) m ρ (Kernel.flat_ok m hpre))

/-- The idealized kernel's frame, under the precondition. -/
theorem frame_ideal : Cert.quiescent_KernelIdeal := fun m ρ hpre =>
  (θ_run Cert.KernelIdeal.defs _ _).mono (fun _ h => ⟨fun c => (h.1 c).2, h.2⟩)
    (KernelIdeal.run_main (F := Ideal) m ρ (KernelIdeal.flat_ok m hpre))

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame, under the precondition. -/
theorem frame_reference_pre : Cert.quiescent_ReferenceIdeal_pre_in_range := fun m ρ _ => frame_reference m ρ trivial

end Cert.Proof

end
-- ==== Proof.Counting.lean ====
module

public import Idealize.ShloMosaic.Lib.Pointwise
public import Mathlib.Data.Nat.Count
public import Mathlib.Data.EReal.Basic

/-!
  Counting, apart from any program: counts of the numbers below a bound that have a property, as folds, as sums of
  consecutive pieces, as words and as extended reals; and sums of consecutive blocks.
-/

@[expose] public section

noncomputable section

namespace Cert.Proof.Counting

open Idealize.ShloMosaic

/-- A fold that adds a one at each `k` with `p k` ends at its start plus the number of such `k`. -/
theorem foldl_ones (n : ℕ) (p : ℕ → Prop) [DecidablePred p] (a : EReal) :
    (List.finRange n).foldl (fun r (k : Fin n) => if p k.val then r + 1 else r) a = a + (Nat.count p n : ℕ) := by
  induction n with
  | zero => simp
  | succ n ih =>
    rw [List.finRange_succ_last, List.foldl_append, List.foldl_map]
    simp only [Fin.val_castSucc, List.foldl_cons, List.foldl_nil, Fin.val_last]
    rw [ih, Nat.count_succ]
    split
    · rw [Nat.cast_add, Nat.cast_one, add_assoc]
    · rw [Nat.add_zero]

/-- The same over words. -/
theorem foldl_ones_word (n : ℕ) (p : ℕ → Prop) [DecidablePred p] (a : ℕ) :
    (List.finRange n).foldl (fun r (k : Fin n) => if p k.val then IntOp.addi r 1#32 else r) (BitVec.ofNat 32 a)
      = BitVec.ofNat 32 (a + Nat.count p n) := by
  induction n with
  | zero => simp
  | succ n ih =>
    rw [List.finRange_succ_last, List.foldl_append, List.foldl_map]
    simp only [Fin.val_castSucc, List.foldl_cons, List.foldl_nil, Fin.val_last]
    rw [ih, Nat.count_succ]
    split
    · rw [← Nat.add_assoc]; exact (BitVec.ofNat_add ..).symm
    · rw [Nat.add_zero]

/-- The counts of consecutive pieces of `n` numbers add up to the count of all. -/
theorem sum_count (p : ℕ → Prop) [DecidablePred p] (n m : ℕ) :
    ∑ w ∈ Finset.range m, Nat.count (fun k => p (n * w + k)) n = Nat.count p (n * m) := by
  induction m with
  | zero => simp
  | succ m ih => rw [Finset.sum_range_succ, ih, Nat.mul_succ, Nat.count_add]

/-- The same for `Fin`, as extended reals. -/
theorem sum_count_fin (p : ℕ → Prop) [DecidablePred p] (n m : ℕ) :
    ∑ w : Fin m, ((Nat.count (fun k => p (n * w.val + k)) n : ℕ) : EReal) = (Nat.count p (n * m) : ℕ) := by
  rw [← sum_count p n m, Nat.cast_sum, Finset.sum_range]

/-- A sum over a further block of `n` numbers. -/
theorem sum_block (f : ℕ → EReal) (n t : ℕ) :
    ∑ r ∈ Finset.range (n * (t + 1)), f r = ∑ r ∈ Finset.range (n * t), f r + ∑ r : Fin n, f (n * t + r.val) := by
  rw [Nat.mul_succ, Finset.sum_range_add, Finset.sum_range (fun r => f (n * t + r))]

/-- A natural below 2³¹ as a word, read signed, is itself. -/
theorem toInt_word (n : ℕ) (h : n < 2 ^ 31) : (BitVec.ofNat 32 n).toInt = n := by
  rw [BitVec.toInt_eq_toNat_cond, BitVec.toNat_ofNat, Nat.mod_eq_of_lt (by omega), if_pos (by omega)]

/-! ## The ids -/

/-- The id at position `n` of the flat ids (0 past their end). -/
def idAt (I : (⟨1, ![1024000]⟩ : Shape).Idx → BitVec 32) (n : ℕ) : ℕ := if h : n < 1024000 then (I (ix1 ⟨n, h⟩)).toNat else 0

theorem idAt_of_lt (I : (⟨1, ![1024000]⟩ : Shape).Idx → BitVec 32) {n : ℕ} (h : n < 1024000) : idAt I n = (I (ix1 ⟨n, h⟩)).toNat := dif_pos h

/-- The number of ids that name bin `b`. -/
def total (I : (⟨1, ![1024000]⟩ : Shape).Idx → BitVec 32) (b : ℕ) : ℕ := Nat.count (fun n => idAt I n = b) 1024000

theorem total_le (I : (⟨1, ![1024000]⟩ : Shape).Idx → BitVec 32) (b : ℕ) : total I b ≤ 1024000 := Nat.count_le _

end Cert.Proof.Counting

end
-- ==== Proof.KernelIdealValue.lean ====
module

public import proofs.«01_k».proof.Proof.KernelIdealFlat
public import proofs.«01_k».proof.Proof.Counting

/-!
  The idealized kernel's result as a formula of the ids and the features.

  A worker's table ends, at each bin, at the number of its ids that name the bin; the thirty-two rows of the counts add up
  to the number of all ids that name it (`counts_sum`). The TensorCore kernel's block ends at the features' rows weighed by
  those numbers, added up over all rows of both arrays, and scaled (`out_apply`).
-/

@[expose] public section

noncomputable section

namespace Cert.Proof.KernelIdeal

open Cert.KernelIdeal Cert.KernelIdeal.Gen
open Idealize.ShloMosaic
open Cert.Proof.Counting

/-- An unmasked adding store, read at one element: its start with the values of the lanes that name it added, lane after
    lane. -/
theorem storeIdx_add_apply {F : FTy → Type} [FloatOps F] {s : Shape} {e : EltTy} {d : Fin 1 → ℕ} (f : Vec F s e) (idxs : Fin s.rank → IVec ⟨1, d⟩ 32)
    (v : Vec F ⟨1, d⟩ e) (h : ∀ a x, (idxs a x).toNat < s.size a) (j : s.Idx) :
    storeIdx f idxs v (fun _ => 1#1) true h j
      = (List.finRange (d 0)).foldl (fun y k => if j = idxAt idxs h (Shape.ofLane k) then Elt.idxAdd e y (v (Shape.ofLane k)) else y) (f j) := by
  unfold storeIdx
  refine (List.foldl_hom (fun r : Vec F s e => r j) fun r k => ?_).symm
  have e0 : (∀ a, (j a).val = (idxAt idxs h (Shape.ofLane k) a).val) ↔ j = idxAt idxs h (Shape.ofLane k) :=
    ⟨fun H => funext fun a => Fin.ext (H a), fun H a => by rw [H]⟩
  by_cases hk : j = idxAt idxs h (Shape.ofLane k)
  · simp only [e0, hk, if_true]
    simp
  · simp only [e0, hk, if_false]
    simp [hk]
    exact fun H => absurd (e0.1 H) hk

/-- One trip's addition at bin `b`: as many ones as the sixteen ids name it. -/
theorem scat_apply (v : IVec S16 32) (h : k0_chk1 v) (g : FVec Ideal S25088 .f32) (b : Fin 25088) (q : ℕ → ℕ)
    (hq : ∀ k : Fin 16, (v (ix1 k)).toNat = q k.val) :
    scat v g (ix1 b) = (g (ix1 b) : EReal) + (Nat.count (fun k => q k = b.val) 16 : ℕ) := by
  unfold scat
  rw [dif_pos h, storeIdx_add_apply]
  refine Eq.trans ?_ (foldl_ones 16 (fun k => q k = b.val) _)
  refine congrArg (fun f => List.foldl f (g (ix1 b) : EReal) (List.finRange 16)) (funext fun y => funext fun k => ?_)
  have hv : (v (Shape.ofLane k)).toNat = q k.val :=
    (congrArg (fun x => (v x).toNat) (show (Shape.ofLane k : S16.Idx) = ix1 (n0 := 16) k from funext fun a => match a with | ⟨0, _⟩ => rfl)).trans (hq k)
  have e : (ix1 b : S25088.Idx) = idxAt (s := S25088) (t := S16) ![v] (k0_idx1_inb v h) (Shape.ofLane k) ↔ q k.val = b.val :=
    ⟨fun H => hv.symm.trans (congrArg (fun i : S25088.Idx => (i 0).val) H).symm,
      fun H => funext fun a => match a with | ⟨0, _⟩ => Fin.ext (H.symm.trans hv.symm)⟩
  by_cases hk : q k.val = b.val
  · refine (if_pos (e.2 hk)).trans (Eq.trans ?_ (if_pos hk).symm)
    exact congrArg (y + ·) Ideal.ofBits_one_f32
  · exact (if_neg fun H => hk (e.1 H)).trans (if_neg hk).symm

/-- The sixteen ids of trip `n` of worker `w` are those at positions `32000 w + 16 n` on. -/
theorem chunk_apply (I : S1024000.Idx → BitVec 32) (w : Fin 32) (n : Fin k0_t2_loop.trips) (k : Fin 16) :
    (chunk (idsOf I w) n (ix1 k)).toNat = idAt I (32000 * w.val + (16 * n.val + k.val)) := by
  have hn : n.val < 2000 := trips2 ▸ n.isLt
  have h : 32000 * w.val + (16 * n.val + k.val) < 1024000 := by omega
  rw [idAt_of_lt I h]
  refine congrArg (fun i => (I i).toNat) (funext fun a => ?_)
  match a with
  | ⟨0, _⟩ =>
    refine Fin.ext ?_
    show w.val * 32000 + (k0_off3 n 0 + 1 * k.val) = 32000 * w.val + (16 * n.val + k.val)
    rw [off3_eq]; omega

/-- A worker's table after `n` trips, at bin `b`: the number of its first `16 n` ids that name the bin. -/
theorem hist_apply (I : S1024000.Idx → BitVec 32) (hI : ∀ j, (I j).toNat < 25000) (w : Fin 32) (b : Fin 25088) (n : ℕ) (hn : n ≤ 2000) :
    hist (F := Ideal) (idsOf I w) n (ix1 b) = (Nat.count (fun k => idAt I (32000 * w.val + k) = b.val) (16 * n) : ℕ) := by
  induction n with
  | zero =>
    rw [hist]
    exact Ideal.ofBits_zero_f32.trans (by simp)
  | succ n ih =>
    have hlt : n < k0_t2_loop.trips := by rw [trips2]; omega
    have hchk : k0_chk1 (chunk (idsOf I w) ⟨n, hlt⟩) := by
      intro a x
      match a with
      | ⟨0, _⟩ => exact lt_trans (hI _) (show 25000 < 25088 by decide)
    rw [hist, dif_pos hlt, scat_apply _ hchk _ b (fun k => idAt I (32000 * w.val + (16 * n + k))) (fun k => chunk_apply I w ⟨n, hlt⟩ k), ih (by omega), Nat.mul_succ, Nat.count_add, Nat.cast_add]

/-- Worker `w`'s row of the counts at bin `b`. -/
theorem counts_eq (I : S1024000.Idx → BitVec 32) (hI : ∀ j, (I j).toNat < 25000) (w : Fin 32) (b : Fin 25088) :
    counts (F := Ideal) I (ix2 w b) = (Nat.count (fun k => idAt I (32000 * w.val + k) = b.val) 32000 : ℕ) := by
  rw [counts_apply I _ w (ix1 b) rfl rfl, trips2, hist_apply I hI w b 2000 le_rfl]

/-- The thirty-two rows at bin `b` add up to the number of ids that name it. -/
theorem counts_sum (I : S1024000.Idx → BitVec 32) (hI : ∀ j, (I j).toNat < 25000) (b : Fin 25088) :
    ∑ w : Fin 32, (counts (F := Ideal) I (ix2 w b) : EReal) = (total I b.val : ℕ) := by
  rw [Finset.sum_congr rfl fun w _ => counts_eq I hI w b]
  exact sum_count_fin (fun k => idAt I k = b.val) 32000 32

/-! ## The weighing -/

section Weigh

variable (n : FVec Ideal S25088x32 .f32) (xc : FVec Ideal S20000x256 .f32) (xa : FVec Ideal S5000x256 .f32)

set_option maxRecDepth 16384 in
/-- One point's addition to the block at column `k`. -/
theorem pay2_apply (a : FVec Ideal S4000x32 .f32) (b : FVec Ideal S1000x32 .f32) (x : FVec Ideal S4000x256 .f32) (y : FVec Ideal S1000x256 .f32)
    (o : FVec Ideal S1x256 .f32) (k : Fin 256) :
    k1_pay2 a b x y o (ix2 0 k) = (o (ix2 0 k) : EReal)
      + (∑ r : Fin 4000, (∑ w : Fin 32, a (ix2 r w)) * x (ix2 r k) + ∑ r : Fin 1000, (∑ w : Fin 32, b (ix2 r w)) * y (ix2 r k)) := by
  pointwise [k1_pay2]

/-- The rows' number `r` of the first array, weighed by `T r`, at column `k` (0 past the last row). -/
def termA (T : ℕ → ℕ) (k : Fin 256) (r : ℕ) : EReal := if h : r < 20000 then ((T r : ℕ) : EReal) * xc (ix2 ⟨r, h⟩ k) else 0

/-- The rows' number `r` of the second array, weighed by `T (20000 + r)`, at column `k` (0 past the last row). -/
def termB (T : ℕ → ℕ) (k : Fin 256) (r : ℕ) : EReal := if h : r < 5000 then ((T (20000 + r) : ℕ) : EReal) * xa (ix2 ⟨r, h⟩ k) else 0

/-- When the rows of the transposed counts add up to `T`, the block after `t` points holds the weighed rows of the blocks
    met so far, added up. -/
theorem acc_apply (T : ℕ → ℕ) (hn : ∀ b : Fin 25088, ∑ w : Fin 32, (n (ix2 b w) : EReal) = (T b.val : ℕ)) (k : Fin 256) (t : ℕ) (ht : t ≤ 5) :
    (acc n xc xa t (ix2 0 k) : EReal) = ∑ r ∈ Finset.range (4000 * t), termA xc T k r + ∑ r ∈ Finset.range (1000 * t), termB xa T k r := by
  induction t with
  | zero =>
    rw [acc]
    exact Ideal.ofBits_zero_f32.trans (by simp)
  | succ t ih =>
    have h : t < 5 := ht
    have hA : ∀ r : Fin 4000, (∑ w : Fin 32, cntA n t h (ix2 r w)) * rowsA xc t h (ix2 r k) = termA xc T k (4000 * t + r.val) := by
      intro r
      have hr : 4000 * t + r.val < 20000 := by omega
      unfold termA
      rw [dif_pos hr, ← hn ⟨4000 * t + r.val, by omega⟩]
      refine congrArg₂ (fun a b : EReal => a * b) (Finset.sum_congr rfl fun w _ => congrArg n (eq_ix2 _)) (congrArg xc (eq_ix2 _))
    have hB : ∀ r : Fin 1000, (∑ w : Fin 32, cntB n t h (ix2 r w)) * rowsB xa t h (ix2 r k) = termB xa T k (1000 * t + r.val) := by
      intro r
      have hr : 1000 * t + r.val < 5000 := by omega
      unfold termB
      rw [dif_pos hr, ← Nat.add_assoc, ← hn ⟨20000 + 1000 * t + r.val, by omega⟩]
      refine congrArg₂ (fun a b : EReal => a * b) (Finset.sum_congr rfl fun w _ => congrArg n (eq_ix2 _)) (congrArg xa (eq_ix2 _))
    rw [acc_succ n xc xa t h, pay2_apply, ih (by omega), sum_block, sum_block, Finset.sum_congr rfl fun r _ => hA r,
      Finset.sum_congr rfl fun r _ => hB r]
    exact add_add_add_comm _ _ _ _

/-- The result at column `k`: both arrays' rows, weighed and added up, times the scale. -/
theorem scaled_apply (T : ℕ → ℕ) (hn : ∀ b : Fin 25088, ∑ w : Fin 32, (n (ix2 b w) : EReal) = (T b.val : ℕ)) (k : Fin 256) :
    (scaled n xc xa (ix2 0 k) : EReal)
      = (∑ r : Fin 20000, ((T r.val : ℕ) : EReal) * xc (ix2 r k) + ∑ r : Fin 5000, ((T (20000 + r.val) : ℕ) : EReal) * xa (ix2 r k))
        * Ideal.ofBits .f32 0x3583126F#32 := by
  have e : (scaled n xc xa (ix2 0 k) : EReal) = (acc n xc xa 5 (ix2 0 k) : EReal) * Ideal.ofBits .f32 0x3583126F#32 := by
    unfold scaled
    pointwise [k1_pay3]
  have eA : ∑ r ∈ Finset.range 20000, termA xc T k r = ∑ r : Fin 20000, ((T r.val : ℕ) : EReal) * xc (ix2 r k) := by
    rw [Finset.sum_range]
    exact Finset.sum_congr rfl fun r _ => dif_pos r.isLt
  have eB : ∑ r ∈ Finset.range 5000, termB xa T k r = ∑ r : Fin 5000, ((T (20000 + r.val) : ℕ) : EReal) * xa (ix2 r k) := by
    rw [Finset.sum_range]
    exact Finset.sum_congr rfl fun r _ => dif_pos r.isLt
  rw [e, acc_apply n xc xa T hn k 5 le_rfl, show 4000 * 5 = 20000 from rfl, show 1000 * 5 = 5000 from rfl, eA, eB]

end Weigh

/-- The kernel's result at column `k`: every feature row weighed by the number of ids that name it, added up, times the
    scale. -/
theorem out_apply (m : (ℓ : Loc nD τ sig) → Buf (Elt Ideal) ℓ) (hm : IdsOK (flat m)) (d : Dev nD) (k : Fin 256) :
    (out m d (ix2 0 k) : EReal)
      = (∑ r : Fin 20000, ((total (flat m d) r.val : ℕ) : EReal) * (m ((SparseCore.T d).loc main_arg0) : FVec Ideal S20000x256 .f32) (ix2 r k)
          + ∑ r : Fin 5000, ((total (flat m d) (20000 + r.val) : ℕ) : EReal) * (m ((SparseCore.T d).loc main_arg1) : FVec Ideal S5000x256 .f32) (ix2 r k))
        * Ideal.ofBits .f32 0x3583126F#32 := by
  refine scaled_apply _ _ _ (total (flat m d)) (fun b => ?_) k
  rw [← counts_sum (flat m d) (hm d) b]
  refine Finset.sum_congr rfl fun w _ => ?_
  pointwise

end Cert.Proof.KernelIdeal

end
-- ==== Proof.ReferenceValue.lean ====
module

public import proofs.«01_k».proof.Proof.Gen.ReferenceIdeal
public import proofs.«01_k».proof.Proof.Counting
public import Idealize.ShloMosaic.Lib.Routing.OpsPair
public import Idealize.ShloMosaic.Lib.Pointwise

/-!
  The reference's result as a formula of the ids and the features.

  The reference makes its ids nonnegative and wraps negative ones, which changes no id of the range (`word_eq`); its
  scatter adds one at every id, so that a bin ends at the number of the ids that name it (`bins_apply`); the rest weighs
  the features' rows by those numbers, adds them up and scales them (`result_apply`).
-/

@[expose] public section

noncomputable section

namespace Cert.Proof.ReferenceIdeal

open Idealize.ShloMosaic Idealize.ShloMosaic.TcCoe Cert.ReferenceIdeal Cert.ReferenceIdeal.Gen Cert.Proof.Counting

/-! ## The reference's terms -/

/-- The ids, made nonnegative. -/
def lifted (I : IVec S1024000 32) : IVec S1024000 32 := maxsi (broadcastInDim S1024000 ![] bcast_S_S1024000 (id (constantI S_ 32 0#32))) I

/-- The column of the bins that the updates go to: the lifted ids, negative ones wrapped. -/
def words (I : IVec S1024000 32) : IVec S1024000x1 32 :=
  broadcastInDim S1024000x1 ![0] bcast_S1024000_S1024000x1_0
    (select (cmpi .slt (lifted I) (broadcastInDim S1024000 ![] bcast_S_S1024000 (constantI S_ 32 0#32)))
      (addi (lifted I) (broadcastInDim S1024000 ![] bcast_S_S1024000 (constantI S_ 32 25000#32))) (lifted I))

/-- The histogram: ones added into zeroed bins. -/
def bins (I : IVec S1024000 32) : IVec S25000 32 :=
  Host.scatter scatter_S25000_S1024000x1_S1024000_n_0_0_1 IntOp.addi (broadcastInDim S25000 ![] bcast_S_S25000 (constantI S_ 32 0#32)) (words I)
    (broadcastInDim S1024000 ![] bcast_S_S1024000 (constantI S_ 32 1#32))

/-- The scaled sum of the features' rows weighed by the histogram `h`. -/
def result (h : IVec S25000 32) (x : FVec Ideal S20000x256 .f32) (y : FVec Ideal S5000x256 .f32) : FVec Ideal S1x256 .f32 :=
  mulf (addf (broadcastInDim S1x256 ![1] bcast_S256_S1x256_1 (Host.reduceAdd (mulf (broadcastInDim S20000x256 ![0, 1] bcast_S20000x1_S20000x256_0_1 (extractStridedSlice S20000x1 ![0, 0] (sitofp .f32 (broadcastInDim S25000x1 ![0] bcast_S25000_S25000x1_0 h)) slices_S25000x1_S20000x1_0_0)) x) (constant S_ .f32 0x00000000#32) reducesTo_S20000x256_S256_d0 h_S_))
      (broadcastInDim S1x256 ![1] bcast_S256_S1x256_1 (Host.reduceAdd (mulf (broadcastInDim S5000x256 ![0, 1] bcast_S5000x1_S5000x256_0_1 (extractStridedSlice S5000x1 ![20000, 0] (sitofp .f32 (broadcastInDim S25000x1 ![0] bcast_S25000_S25000x1_0 h)) slices_S25000x1_S5000x1_20000_0)) y) (constant S_ .f32 0x00000000#32) reducesTo_S5000x256_S256_d0 h_S_)))
    (broadcastInDim S1x256 ![] bcast_S_S1x256 (constant S_ .f32 0x3583126F#32))

/-! ## The ids -/

/-- An id of the range is nonnegative, so that neither step changes it. -/
theorem word_eq (w : BitVec 32) (h : w.toNat < 25000) :
    Scalar.select (IntOp.cmpi .slt (IntOp.maxsi 0#32 w) 0#32) (IntOp.addi (IntOp.maxsi 0#32 w) 25000#32) (IntOp.maxsi 0#32 w) = w := by
  have hi : w.toInt = w.toNat := BitVec.toInt_eq_toNat_of_lt (by omega)
  have h0 : w.slt 0#32 = false := by
    rw [BitVec.slt_eq_decide, hi]
    exact decide_eq_false (by simp)
  have hm : IntOp.maxsi 0#32 w = w := by
    unfold IntOp.maxsi
    split
    · next hlt =>
      rw [h0] at hlt
      cases hlt
    · rfl
  rw [hm]
  have hc : IntOp.cmpi .slt w 0#32 = 0#1 := by
    show BitVec.ofBool (w.slt 0#32) = 0#1
    rw [h0]
    rfl
  rw [hc]
  exact if_neg (by decide)

/-- The updates' bins are the ids. -/
theorem words_apply (I : IVec S1024000 32) (i : Fin 1024000) (h : (I (ix1 i)).toNat < 25000) : words I (ix2 i (0 : Fin 1)) = I (ix1 i) :=
  Eq.trans (by unfold words lifted; pointwise; rfl) (word_eq (I (ix1 i)) h)

/-! ## The histogram -/

/-- The index at which an update reads its bin: the update's own position, in the one column. -/
theorem siIdx_eq (i : Fin 1024000) (c : Fin scatter_S25000_S1024000x1_S1024000_n_0_0_1.scatterDimsToOperandDims.length) :
    scatter_S25000_S1024000x1_S1024000_n_0_0_1.siIdx (ix1 i) c = ix2 i (0 : Fin 1) := by
  funext b
  match b with
  | ⟨0, _⟩ => exact Fin.ext rfl
  | ⟨1, _⟩ => exact Subsingleton.elim (α := Fin 1) _ _

/-- An update lands at the bin that its word names. -/
theorem lands_iff (X : IVec S1024000x1 32) (i : Fin 1024000) (b : Fin 25000) :
    scatter_S25000_S1024000x1_S1024000_n_0_0_1.resultIdx? (ix1 i) X = some (ix1 b) ↔ (X (ix2 i (0 : Fin 1))).toInt = (b.val : ℤ) := by
  rw [Routing.resultIdx?_eq_some]
  have hs : scatter_S25000_S1024000x1_S1024000_n_0_0_1.start (ix1 i) X 0 = (X (ix2 i (0 : Fin 1))).toInt := by
    rw [← siIdx_eq i ⟨0, Nat.zero_lt_one⟩]
    rfl
  have hw : scatter_S25000_S1024000x1_S1024000_n_0_0_1.window (ix1 i) 0 = 0 := rfl
  constructor
  · intro h
    have h0 := h 0
    rw [hs, hw] at h0
    simpa using h0
  · intro h a
    obtain rfl : a = 0 := Subsingleton.elim (α := Fin 1) _ _
    rw [hs, hw, h]
    simp

/-- A bin ends at the number of the ids that name it. -/
theorem bins_apply (I : IVec S1024000 32) (hI : ∀ i, (I i).toNat < 25000) (b : Fin 25000) :
    bins I (ix1 b) = BitVec.ofNat 32 (total I b.val) := by
  have hn : S1024000.numel = 1024000 := Shape.numel_rank1 _
  have hstep : (fun (a : BitVec 32) (n : Fin S1024000.numel) =>
      if scatter_S25000_S1024000x1_S1024000_n_0_0_1.resultIdx? (S1024000.rowMajor.symm n) (words I) = some (ix1 b)
        then IntOp.addi a ((broadcastInDim S1024000 ![] bcast_S_S1024000 (constantI S_ 32 1#32) : IVec S1024000 32) (S1024000.rowMajor.symm n)) else a)
      = fun a n => if idAt I n.val = b.val then IntOp.addi a 1#32 else a := by
    funext a n
    have hlt : n.val < 1024000 := hn ▸ n.isLt
    have hsym : S1024000.rowMajor.symm n = ix1 ⟨n.val, hlt⟩ :=
      (Equiv.symm_apply_eq _).2 (Fin.ext (Shape.rowMajor_val_one (d := ![1024000]) (ix1 ⟨n.val, hlt⟩)).symm)
    have hid := hI (ix1 ⟨n.val, hlt⟩)
    refine if_congr ?_ rfl rfl
    rw [hsym, lands_iff, words_apply I _ hid, idAt_of_lt I hlt, BitVec.toInt_eq_toNat_of_lt (by omega)]
    exact Int.ofNat_inj
  unfold bins
  rw [Routing.scatter_at, hstep]
  refine (foldl_ones_word S1024000.numel (fun n => idAt I n = b.val) 0).trans ?_
  rw [hn, Nat.zero_add]
  rfl

/-! ## The result -/

/-- A bin's number as an extended real. -/
theorem bin_value (I : IVec S1024000 32) (hI : ∀ i, (I i).toNat < 25000) (b : Fin 25000) :
    (Scalar.sitofp (F := Ideal) .f32 (bins I (ix1 b)) : EReal) = ((total I b.val : ℕ) : EReal) := by
  rw [Ideal.scalar_sitofp_def, bins_apply I hI b, toInt_word _ (by have := total_le I b.val; omega)]
  norm_cast

set_option maxRecDepth 16384 in
/-- The reference's result at column `k`, with the histogram left as it is. -/
theorem result_term (h : IVec S25000 32) (x : FVec Ideal S20000x256 .f32) (y : FVec Ideal S5000x256 .f32) (k : Fin 256) :
    (result h x y (ix2 0 k) : EReal)
      = (∑ r : Fin 20000, (Scalar.sitofp (F := Ideal) .f32 (h (ix1 ⟨r.val, by omega⟩)) : EReal) * x (ix2 r k)
          + ∑ r : Fin 5000, (Scalar.sitofp (F := Ideal) .f32 (h (ix1 ⟨20000 + r.val, by omega⟩)) : EReal) * y (ix2 r k))
        * Ideal.ofBits .f32 0x3583126F#32 := by
  unfold result
  pointwise [Ideal.ofBits_zero_f32]
  rfl

/-- The reference's result at column `k`: the rows of both feature arrays weighed by the numbers of the ids that name
    their bins, added up and scaled. -/
theorem result_apply (I : IVec S1024000 32) (hI : ∀ i, (I i).toNat < 25000) (x : FVec Ideal S20000x256 .f32) (y : FVec Ideal S5000x256 .f32)
    (k : Fin 256) :
    (result (bins I) x y (ix2 0 k) : EReal)
      = (∑ r : Fin 20000, ((total I r.val : ℕ) : EReal) * x (ix2 r k) + ∑ r : Fin 5000, ((total I (20000 + r.val) : ℕ) : EReal) * y (ix2 r k))
        * Ideal.ofBits .f32 0x3583126F#32 := by
  rw [result_term]
  simp only [bin_value I hI]

end Cert.Proof.ReferenceIdeal

end
-- ==== Proof.Algebraic.lean ====
module

public import proofs.«01_k».proof.Defs
public import proofs.«01_k».proof.Proof.KernelIdealValue
public import proofs.«01_k».proof.Proof.ReferenceValue
public import proofs.«01_k».proof.Proof.Gen.ReferenceIdeal.Run

/-!
  The value claim: over the extended reals the idealized kernel and the reference end with the same result.
-/

@[expose] public section

noncomputable section

namespace Cert.Proof

open Idealize.ShloMosaic Idealize.SL.Sem

/-- Launched with the same arguments, ids in range, the idealized kernel and the reference end with the same result, the
    arguments unchanged. -/
theorem algebraic : Cert.algebraic_KernelIdeal_ReferenceIdeal := by
  intro m g m' g' hpre hagree
  have hm := KernelIdeal.flat_ok m hpre
  refine ⟨fun c => KernelIdeal.out m c, ?_, ?_⟩
  · exact (θ_run Cert.KernelIdeal.defs _ _).mono (fun _ h c => h.1 c) (KernelIdeal.run_main (F := Ideal) m g hm)
  · refine (θ_run Cert.ReferenceIdeal.defs _ _).mono (fun r h c => ⟨(h c).1.trans ?_, (h c).2⟩) (Cert.ReferenceIdeal.Value.run (F := Ideal) m' g')
    obtain ⟨e0, e1, e2⟩ := hagree c
    rw [e0, e1, e2]
    show ReferenceIdeal.result (ReferenceIdeal.bins (shapeCast Cert.ReferenceIdeal.S1024000 _ _)) _ _ = KernelIdeal.out m c
    funext i
    obtain ⟨k, rfl⟩ : ∃ k : Fin 256, i = ix2 (0 : Fin 1) k :=
      ⟨i 1, (eq_ix2 i).trans (congrArg (fun a : Fin 1 => ix2 a (i 1)) (Subsingleton.elim _ _))⟩
    refine Eq.trans ?_ (KernelIdeal.out_apply m hm c k).symm
    rw [KernelIdeal.flat_eq]
    refine ReferenceIdeal.result_apply _ (fun j => ?_) _ _ k
    have hj := hm c j
    rw [KernelIdeal.flat_eq] at hj
    exact hj

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything that the certificate claims, from the programs' side conditions and the modules' theorems. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, algebraic⟩

end Cert.Proof

end
